-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x8192x768 : Shape := ⟨3, ![1, 8192, 768]⟩
abbrev S768x768 : Shape := ⟨2, ![768, 768]⟩
abbrev S_ : Shape := ⟨0, ![]⟩

class Facts : Prop where
  bcast_S_S1x8192x768 : S_.BroadcastsInDim S1x8192x768 (![] : Fin 0 → Fin S1x8192x768.rank)
  bcast_S_S768x768 : S_.BroadcastsInDim S768x768 (![] : Fin 0 → Fin S768x768.rank)

variable [Facts]

def fn {F : FTy → Type} [FloatOps F] (main_arg0 : FVec F S1x8192x768 .f32) (main_arg1 : FVec F S768x768 .f32) (main_arg2 : FVec F S768x768 .f32) (main_arg3 : FVec F S768x768 .f32) : IVec S1x8192x768 1 × IVec S768x768 1 × IVec S768x768 1 :=
  let main_v0 : FVec F S1x8192x768 .f32 := Host.absf main_arg0
  let main_cst : FVec F S_ .f32 := constant S_ .f32 0x7F800000#32
  let main_v1 : FVec F S1x8192x768 .f32 := broadcastInDim S1x8192x768 ![] bcast_S_S1x8192x768 main_cst
  let main_v2 : IVec S1x8192x768 1 := cmpf .olt main_v0 main_v1
  let main_v3 : FVec F S768x768 .f32 := Host.absf main_arg1
  let main_cst_0 : FVec F S_ .f32 := constant S_ .f32 0x7F800000#32
  let main_v4 : FVec F S768x768 .f32 := broadcastInDim S768x768 ![] bcast_S_S768x768 main_cst_0
  let main_v5 : IVec S768x768 1 := cmpf .olt main_v3 main_v4
  let main_v6 : FVec F S768x768 .f32 := Host.absf main_arg2
  let main_cst_1 : FVec F S_ .f32 := constant S_ .f32 0x7F800000#32
  let main_v7 : FVec F S768x768 .f32 := broadcastInDim S768x768 ![] bcast_S_S768x768 main_cst_1
  let main_v8 : IVec S768x768 1 := cmpf .olt main_v6 main_v7
  (main_v2, main_v5, main_v8)
-- ==== Kernel.lean ====
abbrev S1x8192x768 : Shape := ⟨3, ![1, 8192, 768]⟩
abbrev S768x768 : Shape := ⟨2, ![768, 768]⟩
abbrev S8192x768 : Shape := ⟨2, ![8192, 768]⟩
abbrev S_ : Shape := ⟨0, ![]⟩
abbrev S768x2304 : Shape := ⟨2, ![768, 2304]⟩
abbrev S2048x768 : Shape := ⟨2, ![2048, 768]⟩
abbrev S8192x896 : Shape := ⟨2, ![8192, 896]⟩
abbrev S2048x3072 : Shape := ⟨2, ![2048, 3072]⟩
abbrev S4096x768 : Shape := ⟨2, ![4096, 768]⟩
abbrev S2048x1536 : Shape := ⟨2, ![2048, 1536]⟩
abbrev S2048x128 : Shape := ⟨2, ![2048, 128]⟩
abbrev S512x768 : Shape := ⟨2, ![512, 768]⟩
abbrev S512x2048 : Shape := ⟨2, ![512, 2048]⟩
abbrev S512x128 : Shape := ⟨2, ![512, 128]⟩
abbrev S1024x896 : Shape := ⟨2, ![1024, 896]⟩
abbrev S512x896 : Shape := ⟨2, ![512, 896]⟩
abbrev S256x896 : Shape := ⟨2, ![256, 896]⟩
abbrev S256x3584 : Shape := ⟨2, ![256, 3584]⟩
abbrev S256x1792 : Shape := ⟨2, ![256, 1792]⟩
abbrev S256x768 : Shape := ⟨2, ![256, 768]⟩
abbrev S256x1 : Shape := ⟨2, ![256, 1]⟩
abbrev S256x3072 : Shape := ⟨2, ![256, 3072]⟩
abbrev S1024x768 : Shape := ⟨2, ![1024, 768]⟩

abbrev nBuf : Space → Nat
  | .hbm => 12
  | .vmem => 5
  | .smem => 0
  | _ => 0

abbrev bufTy : (tb : Table) → Fin (tcTables nBuf tb) → BufTy
  | .hbm, ⟨0, _⟩ => ⟨S1x8192x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S8192x768, .f32⟩
  | .hbm, ⟨5, _⟩ => ⟨S8192x768, .bf16⟩
  | .hbm, ⟨6, _⟩ => ⟨S_, .f32⟩
  | .hbm, ⟨7, _⟩ => ⟨S768x768, .f32⟩
  | .hbm, ⟨8, _⟩ => ⟨S768x768, .f32⟩
  | .hbm, ⟨9, _⟩ => ⟨S768x2304, .f32⟩
  | .hbm, ⟨10, _⟩ => ⟨S768x2304, .bf16⟩
  | .hbm, ⟨11, _⟩ => ⟨S8192x768, .f32⟩
  | .local _ .vmem, ⟨0, _⟩ => ⟨S768x2304, .bf16⟩
  | .local _ .vmem, ⟨1, _⟩ => ⟨S2048x768, .f32⟩
  | .local _ .vmem, ⟨2, _⟩ => ⟨S2048x768, .f32⟩
  | .local _ .vmem, ⟨3, _⟩ => ⟨S8192x768, .bf16⟩
  | .local _ .vmem, ⟨4, _⟩ => ⟨S8192x896, .bf16⟩
  | _, _ => ⟨S1x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c2_i32 : BitVec 32 := 2#32
  let v3 : BitVec 1 := Scalar.cmpi .sge arg0 c2_i32
  let v4 : BitVec 32 := Scalar.extui v3
  let c3_i32 : BitVec 32 := 3#32
  let v5 : BitVec 1 := Scalar.cmpi .sge arg0 c3_i32
  let v6 : BitVec 32 := Scalar.extui v5
  let v7 : BitVec 32 := Scalar.addi v4 v6
  let c0_i32_1 : BitVec 32 := 0#32
  let v8 : BitVec 32 := Scalar.maxsi v7 c0_i32_1
  let c2_i32_2 : BitVec 32 := 2#32
  let v9 : BitVec 32 := Scalar.minsi v8 c2_i32_2
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c2_i32 : BitVec 32 := 2#32
  let v3 : BitVec 1 := Scalar.cmpi .sge arg0 c2_i32
  let v4 : BitVec 32 := Scalar.extui v3
  let c3_i32 : BitVec 32 := 3#32
  let v5 : BitVec 1 := Scalar.cmpi .sge arg0 c3_i32
  let v6 : BitVec 32 := Scalar.extui v5
  let v7 : BitVec 32 := Scalar.addi v4 v6
  let c0_i32_1 : BitVec 32 := 0#32
  let v8 : BitVec 32 := Scalar.maxsi v7 c0_i32_1
  let c2_i32_2 : BitVec 32 := 2#32
  let v9 : BitVec 32 := Scalar.minsi v8 c2_i32_2
  let c1_i32 : BitVec 32 := 1#32
  let v98 : BitVec 32 := Scalar.subi v9 c1_i32
  let c0_i32_31 : BitVec 32 := 0#32
  let v99 : BitVec 1 := Scalar.cmpi .ne v98 c0_i32_31
  v99

def k0_off1 (i : grid0.Coords) : Fin 2 → Nat :=
  let c2048_i32_33 : BitVec 32 := 2048#32
  let arg0 : BitVec 32 := BitVec.ofNat 32 (i 0).val
  let c3_i32_32 : BitVec 32 := 3#32
  let v101 : BitVec 32 := Scalar.subi arg0 c3_i32_32
  let v102 : BitVec 32 := Scalar.muli c2048_i32_33 v101
  let v103 : Index := Scalar.indexCast v102
  let c0_34 : Index := 0#32
  ![v103.toNat, 0]
def k0_off2 (i : grid0.Coords) : Fin 2 → Nat :=
  let c4096_i32 : BitVec 32 := 4096#32
  let arg0 : BitVec 32 := BitVec.ofNat 32 (i 0).val
  let v98 : BitVec 32 := Scalar.muli c4096_i32 arg0
  let v99 : Index := Scalar.indexCast v98
  let c0_31 : Index := 0#32
  ![v99.toNat, 0]
def k0_off3 (i : grid0.Coords) (c0_i32_12 : BitVec 32) : Fin 2 → Nat :=
  let arg0 : BitVec 32 := BitVec.ofNat 32 (i 0).val
  let c3_i32_8 : BitVec 32 := 3#32
  let v24 : BitVec 1 := Scalar.cmpi .slt arg0 c3_i32_8
  let c2048_i32 : BitVec 32 := 2048#32
  let v25 : BitVec 32 := Scalar.muli c2048_i32 arg0
  let c6144_i32 : BitVec 32 := 6144#32
  let v26 : BitVec 32 := Scalar.select v24 v25 c6144_i32
  let v33 : BitVec 32 := Scalar.addi v26 c0_i32_12
  let v35 : Index := Scalar.indexCast v33
  let c0_13 : Index := 0#32
  ![v35.toNat, 0]
def k0_off4 (i : grid0.Coords) (c0_i32_12 : BitVec 32) : Fin 2 → Nat :=
  let arg0 : BitVec 32 := BitVec.ofNat 32 (i 0).val
  let c3_i32_8 : BitVec 32 := 3#32
  let v24 : BitVec 1 := Scalar.cmpi .slt arg0 c3_i32_8
  let c2048_i32 : BitVec 32 := 2048#32
  let v25 : BitVec 32 := Scalar.muli c2048_i32 arg0
  let c6144_i32 : BitVec 32 := 6144#32
  let v26 : BitVec 32 := Scalar.select v24 v25 c6144_i32
  let v33 : BitVec 32 := Scalar.addi v26 c0_i32_12
  let v40 : Index := Scalar.indexCast v33
  let c768 : Index := 768#32
  ![v40.toNat, 768]
def k0_cond4 (i : grid0.Coords) : BitVec 1 :=
  let arg0 : BitVec 32 := BitVec.ofNat 32 (i 0).val
  let c3_i32_29 : BitVec 32 := 3#32
  let v95 : BitVec 1 := Scalar.cmpi .sge arg0 c3_i32_29
  let v96 : BitVec 32 := Scalar.extui v95
  let c0_i32_30 : BitVec 32 := 0#32
  let v97 : BitVec 1 := Scalar.cmpi .ne v96 c0_i32_30
  v97

def k0_off5 (i : grid0.Coords) (c0_i32_34 : BitVec 32) : Fin 2 → Nat :=
  let c1024_i32_33 : BitVec 32 := 1024#32
  let arg0 : BitVec 32 := BitVec.ofNat 32 (i 0).val
  let c3_i32_31 : BitVec 32 := 3#32
  let v98 : BitVec 32 := Scalar.subi arg0 c3_i32_31
  let v100 : BitVec 32 := Scalar.muli c1024_i32_33 v98
  let v101 : BitVec 32 := Scalar.addi v100 c0_i32_34
  let v102 : Index := Scalar.indexCast v101
  let c0_35 : Index := 0#32
  ![v102.toNat, 0]
def k0_off6 (i : grid0.Coords) (c0_i32_37 : BitVec 32) : Fin 2 → Nat :=
  let c4096_i32 : BitVec 32 := 4096#32
  let c512_i32_36 : BitVec 32 := 512#32
  let arg0 : BitVec 32 := BitVec.ofNat 32 (i 0).val
  let c3_i32_31 : BitVec 32 := 3#32
  let v98 : BitVec 32 := Scalar.subi arg0 c3_i32_31
  let v104 : BitVec 32 := Scalar.muli c512_i32_36 v98
  let v105 : BitVec 32 := Scalar.addi c4096_i32 v104
  let v106 : BitVec 32 := Scalar.addi v105 c0_i32_37
  let v107 : Index := Scalar.indexCast v106
  let c0_38 : Index := 0#32
  ![v107.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S768x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1x8192x768 : Shape := ⟨3, ![1, 8192, 768]⟩
abbrev S768x768 : Shape := ⟨2, ![768, 768]⟩
abbrev S8192 : Shape := ⟨1, ![8192]⟩
abbrev S_ : Shape := ⟨0, ![]⟩
abbrev S4096 : Shape := ⟨1, ![4096]⟩
abbrev S2048 : Shape := ⟨1, ![2048]⟩
abbrev S14336 : Shape := ⟨1, ![14336]⟩
abbrev S8192x768 : Shape := ⟨2, ![8192, 768]⟩
abbrev S14336x1 : Shape := ⟨2, ![14336, 1]⟩
abbrev S14336x768 : Shape := ⟨2, ![14336, 768]⟩
abbrev S7x2048x768 : Shape := ⟨3, ![7, 2048, 768]⟩
abbrev S7x2048x2048 : Shape := ⟨3, ![7, 2048, 2048]⟩
abbrev S7x2048 : Shape := ⟨2, ![7, 2048]⟩
abbrev S7x2048x1 : Shape := ⟨3, ![7, 2048, 1]⟩

abbrev nBuf : Space → Nat
  | .hbm => 88
  | .vmem => 0
  | .smem => 0
  | _ => 0

abbrev bufTy : (tb : Table) → Fin (tcTables nBuf tb) → BufTy
  | .hbm, ⟨0, _⟩ => ⟨S1x8192x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S14336, .i32⟩
  | .hbm, ⟨26, _⟩ => ⟨S8192x768, .f32⟩
  | .hbm, ⟨27, _⟩ => ⟨S_, .i32⟩
  | .hbm, ⟨28, _⟩ => ⟨S14336, .i32⟩
  | .hbm, ⟨29, _⟩ => ⟨S14336, .i1⟩
  | .hbm, ⟨30, _⟩ => ⟨S_, .i32⟩
  | .hbm, ⟨31, _⟩ => ⟨S14336, .i32⟩
  | .hbm, ⟨32, _⟩ => ⟨S14336, .i32⟩
  | .hbm, ⟨33, _⟩ => ⟨S14336, .i32⟩
  | .hbm, ⟨34, _⟩ => ⟨S14336x1, .i32⟩
  | .hbm, ⟨35, _⟩ => ⟨S14336x768, .f32⟩
  | .hbm, ⟨36, _⟩ => ⟨S7x2048x768, .f32⟩
  | .hbm, ⟨37, _⟩ => ⟨S7x2048x768, .f32⟩
  | .hbm, ⟨38, _⟩ => ⟨S7x2048x768, .f32⟩
  | .hbm, ⟨39, _⟩ => ⟨S7x2048x768, .f32⟩
  | .hbm, ⟨40, _⟩ => ⟨S7x2048x2048, .f32⟩
  | .hbm, ⟨41, _⟩ => ⟨S_, .f32⟩
  | .hbm, ⟨42, _⟩ => ⟨S7x2048x2048, .f32⟩
  | .hbm, ⟨43, _⟩ => ⟨S7x2048x2048, .f32⟩
  | .hbm, ⟨44, _⟩ => ⟨S7x2048x2048, .f32⟩
  | .hbm, ⟨45, _⟩ => ⟨S_, .f32⟩
  | .hbm, ⟨46, _⟩ => ⟨S7x2048, .f32⟩
  | .hbm, ⟨47, _⟩ => ⟨S7x2048x768, .f32⟩
  | .hbm, ⟨48, _⟩ => ⟨S7x2048x1, .f32⟩
  | .hbm, ⟨49, _⟩ => ⟨S7x2048x768, .f32⟩
  | .hbm, ⟨50, _⟩ => ⟨S7x2048x768, .f32⟩
  | .hbm, ⟨51, _⟩ => ⟨S14336x768, .f32⟩
  | .hbm, ⟨52, _⟩ => ⟨S14336, .f32⟩
  | .hbm, ⟨53, _⟩ => ⟨S_, .f32⟩
  | .hbm, ⟨54, _⟩ => ⟨S8192, .f32⟩
  | .hbm, ⟨55, _⟩ => ⟨S_, .i32⟩
  | .hbm, ⟨56, _⟩ => ⟨S14336, .i32⟩
  | .hbm, ⟨57, _⟩ => ⟨S14336, .i1⟩
  | .hbm, ⟨58, _⟩ => ⟨S_, .i32⟩
  | .hbm, ⟨59, _⟩ => ⟨S14336, .i32⟩
  | .hbm, ⟨60, _⟩ => ⟨S14336, .i32⟩
  | .hbm, ⟨61, _⟩ => ⟨S14336, .i32⟩
  | .hbm, ⟨62, _⟩ => ⟨S14336x1, .i32⟩
  | .hbm, ⟨63, _⟩ => ⟨S8192, .f32⟩
  | .hbm, ⟨64, _⟩ => ⟨S_, .i32⟩
  | .hbm, ⟨65, _⟩ => ⟨S14336, .i32⟩
  | .hbm, ⟨66, _⟩ => ⟨S14336, .i1⟩
  | .hbm, ⟨67, _⟩ => ⟨S_, .i32⟩
  | .hbm, ⟨68, _⟩ => ⟨S14336, .i32⟩
  | .hbm, ⟨69, _⟩ => ⟨S14336, .i32⟩
  | .hbm, ⟨70, _⟩ => ⟨S14336, .i32⟩
  | .hbm, ⟨71, _⟩ => ⟨S14336x1, .i32⟩
  | .hbm, ⟨72, _⟩ => ⟨S14336, .f32⟩
  | .hbm, ⟨73, _⟩ => ⟨S14336, .f32⟩
  | .hbm, ⟨74, _⟩ => ⟨S_, .f32⟩
  | .hbm, ⟨75, _⟩ => ⟨S8192x768, .f32⟩
  | .hbm, ⟨76, _⟩ => ⟨S14336x1, .f32⟩
  | .hbm, ⟨77, _⟩ => ⟨S14336x768, .f32⟩
  | .hbm, ⟨78, _⟩ => ⟨S14336x768, .f32⟩
  | .hbm, ⟨79, _⟩ => ⟨S_, .i32⟩
  | .hbm, ⟨80, _⟩ => ⟨S14336, .i32⟩
  | .hbm, ⟨81, _⟩ => ⟨S14336, .i1⟩
  | .hbm, ⟨82, _⟩ => ⟨S_, .i32⟩
  | .hbm, ⟨83, _⟩ => ⟨S14336, .i32⟩
  | .hbm, ⟨84, _⟩ => ⟨S14336, .i32⟩
  | .hbm, ⟨85, _⟩ => ⟨S14336, .i32⟩
  | .hbm, ⟨86, _⟩ => ⟨S14336x1, .i32⟩
  | .hbm, ⟨87, _⟩ => ⟨S8192x768, .f32⟩
  | _, _ => ⟨S1x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_c_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_11 : Ref sig .tc := ⟨.hbm, 64, rfl⟩
abbrev main_v47 : Ref sig .tc := ⟨.hbm, 65, rfl⟩
abbrev main_v48 : Ref sig .tc := ⟨.hbm, 66, rfl⟩
abbrev main_c_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_14 : Ref sig .tc := ⟨.hbm, 79, rfl⟩
abbrev main_v59 : Ref sig .tc := ⟨.hbm, 80, rfl⟩
abbrev main_v60 : Ref sig .tc := ⟨.hbm, 81, rfl⟩
abbrev main_c_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Proof.Run.lean ====
/-
  The kernel's body, run once for each way its conditions fall: the point that copies `x16` into scratch, the
  stride-2 points, the stride-4 point, and the points that finish a block of the result. Each run names what the
  body leaves in its scratch buffers and in its output block as a list of stored pieces over what was there.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The scratch copy of `x16`, the scratch table of numerators and denominators, and `x16` itself, left in HBM. -/
abbrev mXs : Memref sig .tc .vmem S8192x768 .bf16 := Memref.whole cc0_scratch0
abbrev mNd : Memref sig .tc .vmem S8192x896 .bf16 := Memref.whole cc0_scratch1
abbrev mX : Memref sig .tc .hbm S8192x768 .bf16 := Memref.whole main_v1

/-- The contents of the buffer a memref lies in, and its points-to at the full share. -/
abbrev BufOf (c : Dev nD) {sp : Space} {S : Shape} {e : EltTy} (M : Memref sig .tc sp S e) : Type := Buf (Elt F) (M.view.loc (c : Thread nD τ))
abbrev ptAll (c : Dev nD) {sp : Space} {S : Shape} {e : EltTy} (M : Memref sig .tc sp S e) (f : BufOf (F := F) c M) : sProp 𝕄 :=
  M.view.loc (c : Thread nD τ) ↦{fullShare} f

/-- The first condition of the body (is this the first grid point?), as the body computes it. -/
def cond1 (i : grid0.Coords) : BitVec 1 :=
  Scalar.cmpi .ne (Scalar.extui (Scalar.cmpi .eq (BitVec.ofNat 32 (i 0).val) 0#32) : BitVec 32) 0#32

/-- The body on its own scratch, at any coordinates and any staging memrefs. -/
abbrev body (i : grid0.Coords) (arg2 : Memref sig .tc .vmem S768x2304 .bf16) (harg2 : arg2.IsWhole)
    (arg3 : Memref sig .tc .vmem S2048x768 .f32) (harg3 : arg3.IsWhole) : Prog (TpuEff nD τ sig (Elt F) Λ₀ .tc) PUnit :=
  cc0__fused_kernel i mX (Memref.isWhole_whole _) arg2 harg2 arg3 harg3 mXs (Memref.isWhole_whole _) mNd (Memref.isWhole_whole _) cc0_scratch2

/-- A stride-2 point that copies nothing: the table takes the stored pieces, the output block is not touched. -/
def runB (c : Dev nD) (i : grid0.Coords) (h1 : ¬ cond1 i = 1#1) (h2 : ¬ k0_cond2 i = 1#1) (h4 : ¬ k0_cond4 i = 1#1)
    (arg2 : Memref sig .tc .vmem S768x2304 .bf16) (harg2 : arg2.IsWhole)
    (arg3 : Memref sig .tc .vmem S2048x768 .f32) (harg3 : arg3.IsWhole)
    (X2 : S768x2304.Idx → Elt F .bf16) (fx : BufOf (F := F) c mXs) (fn : BufOf (F := F) c mNd) :
    { L : List (View.Piece (Elt F) S8192x896 .bf16) //
      ∀ (W : Waits sig Unit) (K : PUnit → sProp 𝕄),
        iprop(owns (c : Thread nD τ) arg2 fullShare X2 ∗ ptAll c mXs fx ∗ ptAll c mNd fn ∗ owes (c : Thread nD τ) 0 W
            ∗ (iprop(owns (c : Thread nD τ) arg2 fullShare X2 ∗ ptAll c mXs fx ∗ ptAll c mNd (mNd.view.writes (Elt F) fn L)
                ∗ (∃ W', owes (c : Thread nD τ) 0 W')) -∗ K ⟨⟩))
          ⊢ wp frame (wpE (defs₀ (F := F)) Variants.none c none) Set.univ (body i arg2 harg2 arg3 harg3) K } := by
  refine ⟨?_, fun W K => ?run⟩
  case run =>
    unfold cond1 at h1
    unfold body
    simp only [cc0__fused_kernel_eq_skeleton]; unfold cc0__fused_kernel_skel
    unfold owns
    iintro ⟨⟨%f2, %hf2, H2⟩, Hx, Hn, HW, Hk⟩
    obtain rfl := harg2.eq_unread hf2
    sl_exec
    sl_step
    iapply Hk
    isplitl [H2]
    · iexists _; isplitr; swap; · iexact H2
      ipureintro; exact hf2
    isplitl [Hx]; · iexact Hx
    isplitl [Hn]; · iexact Hn
    iexists _; iexact HW

/-- The stride-4 point: as a stride-2 point, the loaded window apart. -/
def runC (c : Dev nD) (i : grid0.Coords) (h1 : ¬ cond1 i = 1#1) (h2 : k0_cond2 i = 1#1) (h3 : ¬ k0_cond3 i = 1#1) (h4 : ¬ k0_cond4 i = 1#1)
    (arg2 : Memref sig .tc .vmem S768x2304 .bf16) (harg2 : arg2.IsWhole)
    (arg3 : Memref sig .tc .vmem S2048x768 .f32) (harg3 : arg3.IsWhole)
    (X2 : S768x2304.Idx → Elt F .bf16) (fx : BufOf (F := F) c mXs) (fn : BufOf (F := F) c mNd) :
    { L : List (View.Piece (Elt F) S8192x896 .bf16) //
      ∀ (W : Waits sig Unit) (K : PUnit → sProp 𝕄),
        iprop(owns (c : Thread nD τ) arg2 fullShare X2 ∗ ptAll c mXs fx ∗ ptAll c mNd fn ∗ owes (c : Thread nD τ) 0 W
            ∗ (iprop(owns (c : Thread nD τ) arg2 fullShare X2 ∗ ptAll c mXs fx ∗ ptAll c mNd (mNd.view.writes (Elt F) fn L)
                ∗ (∃ W', owes (c : Thread nD τ) 0 W')) -∗ K ⟨⟩))
          ⊢ wp frame (wpE (defs₀ (F := F)) Variants.none c none) Set.univ (body i arg2 harg2 arg3 harg3) K } := by
  refine ⟨?_, fun W K => ?run⟩
  case run =>
    unfold cond1 at h1
    unfold body
    simp only [cc0__fused_kernel_eq_skeleton]; unfold cc0__fused_kernel_skel
    unfold owns
    iintro ⟨⟨%f2, %hf2, H2⟩, Hx, Hn, HW, Hk⟩
    obtain rfl := harg2.eq_unread hf2
    sl_exec
    sl_step
    iapply Hk
    isplitl [H2]
    · iexists _; isplitr; swap; · iexact H2
      ipureintro; exact hf2
    isplitl [Hx]; · iexact Hx
    isplitl [Hn]; · iexact Hn
    iexists _; iexact HW

/-- The first point: the whole of `x16` is copied into scratch and waited for, then a stride-2 point. -/
def runA (c : Dev nD) (i : grid0.Coords) (h1 : cond1 i = 1#1) (h2 : ¬ k0_cond2 i = 1#1) (h4 : ¬ k0_cond4 i = 1#1)
    (arg2 : Memref sig .tc .vmem S768x2304 .bf16) (harg2 : arg2.IsWhole)
    (arg3 : Memref sig .tc .vmem S2048x768 .f32) (harg3 : arg3.IsWhole)
    (X2 : S768x2304.Idx → Elt F .bf16) (fh : BufOf (F := F) c mX) (fx : BufOf (F := F) c mXs) (fn : BufOf (F := F) c mNd) :
    { R : BufOf (F := F) c mXs × List (View.Piece (Elt F) S8192x896 .bf16) //
      ∀ (W : Waits sig Unit) (K : PUnit → sProp 𝕄),
        iprop(owns (c : Thread nD τ) arg2 fullShare X2 ∗ ptAll c mXs fx ∗ ptAll c mNd fn
            ∗ semVal ((c : Thread nD τ), SemLoc.dma 3) 0 ∗ ptAll c mX fh ∗ owes (c : Thread nD τ) 0 W
            ∗ (iprop(owns (c : Thread nD τ) arg2 fullShare X2 ∗ ptAll c mXs R.1 ∗ ptAll c mNd (mNd.view.writes (Elt F) fn R.2)
                ∗ semVal ((c : Thread nD τ), SemLoc.dma 3) 0 ∗ ptAll c mX fh
                ∗ (∃ W', owes (c : Thread nD τ) 0 W')) -∗ K ⟨⟩))
          ⊢ wp frame (wpE (defs₀ (F := F)) Variants.none c none) Set.univ (body i arg2 harg2 arg3 harg3) K } := by
  refine ⟨(?_, ?_), fun W K => ?run⟩
  case run =>
    unfold cond1 at h1
    unfold body
    simp only [cc0__fused_kernel_eq_skeleton]; unfold cc0__fused_kernel_skel
    unfold owns
    iintro ⟨⟨%f2, %hf2, H2⟩, Hx, Hn, Hs, Hh, HW, Hk⟩
    obtain rfl := harg2.eq_unread hf2
    sl_exec
    sl_step
    iapply Hk
    isplitl [H2]
    · iexists _; isplitr; swap; · iexact H2
      ipureintro; exact hf2
    isplitl [Hx]; · iexact Hx
    isplitl [Hn]; · iexact Hn
    isplitl [Hs]; · iexact Hs
    isplitl [Hh]; · iexact Hh
    iexists _; iexact HW

/-- The coordinates of the points that finish a block of the result: block `b` is finished at point `b + 3`. -/
def iD (b : Fin 4) : grid0.Coords := fun a => ⟨b.val + 3, by
  have ha : a = 0 := Subsingleton.elim (α := Fin 1) _ _
  subst ha; show b.val + 3 < 7; omega⟩

/-! Where the loads and stores of such a point lie, in closed form. -/
section
variable (b : Fin 4)
instance : ClosedOff (k0_off3 (iD b) 0#32) := ⟨![6144, 0], by revert b; decide⟩
instance : ClosedOff (k0_off3 (iD b) 512#32) := ⟨![6656, 0], by revert b; decide⟩
instance : ClosedOff (k0_off3 (iD b) 1024#32) := ⟨![7168, 0], by revert b; decide⟩
instance : ClosedOff (k0_off3 (iD b) 1536#32) := ⟨![7680, 0], by revert b; decide⟩
instance : ClosedOff (k0_off4 (iD b) 0#32) := ⟨![6144, 768], by revert b; decide⟩
instance : ClosedOff (k0_off4 (iD b) 512#32) := ⟨![6656, 768], by revert b; decide⟩
instance : ClosedOff (k0_off4 (iD b) 1024#32) := ⟨![7168, 768], by revert b; decide⟩
instance : ClosedOff (k0_off4 (iD b) 1536#32) := ⟨![7680, 768], by revert b; decide⟩
instance : ClosedOff (k0_off5 (iD b) 0#32) := ⟨![1024 * b.val + 0, 0], by revert b; decide⟩
instance : ClosedOff (k0_off5 (iD b) 512#32) := ⟨![1024 * b.val + 512, 0], by revert b; decide⟩
instance : ClosedOff (k0_off6 (iD b) 0#32) := ⟨![4096 + 512 * b.val + 0, 0], by revert b; decide⟩
instance : ClosedOff (k0_off6 (iD b) 256#32) := ⟨![4096 + 512 * b.val + 256, 0], by revert b; decide⟩
instance : ClosedOff (k0_off1 (iD b)) := ⟨![2048 * b.val, 0], by revert b; decide⟩
end

/-- A point that finishes a block of the result: the table takes the stored pieces, then the output block its own. -/
def runD (c : Dev nD) (b : Fin 4) (h1 : ¬ cond1 (iD b) = 1#1) (h2 : k0_cond2 (iD b) = 1#1) (h3 : k0_cond3 (iD b) = 1#1) (h4 : k0_cond4 (iD b) = 1#1)
    (arg2 : Memref sig .tc .vmem S768x2304 .bf16) (harg2 : arg2.IsWhole)
    (arg3 : Memref sig .tc .vmem S2048x768 .f32) (harg3 : arg3.IsWhole)
    (X2 : S768x2304.Idx → Elt F .bf16) (fx : BufOf (F := F) c mXs) (fn : BufOf (F := F) c mNd) :
    { R : List (View.Piece (Elt F) S8192x896 .bf16) × List (View.Piece (Elt F) S2048x768 .f32) //
      ∀ (W : Waits sig Unit) (K : PUnit → sProp 𝕄),
        iprop(owns (c : Thread nD τ) arg2 fullShare X2 ∗ (∃ d, owns (c : Thread nD τ) arg3 fullShare d)
            ∗ ptAll c mXs fx ∗ ptAll c mNd fn ∗ owes (c : Thread nD τ) 0 W
            ∗ (iprop(owns (c : Thread nD τ) arg2 fullShare X2
                ∗ (∃ f, arg3.view.loc (c : Thread nD τ) ↦[arg3.view.set]{fullShare} arg3.view.writes (Elt F) f R.2)
                ∗ ptAll c mXs fx ∗ ptAll c mNd (mNd.view.writes (Elt F) fn R.1)
                ∗ (∃ W', owes (c : Thread nD τ) 0 W')) -∗ K ⟨⟩))
          ⊢ wp frame (wpE (defs₀ (F := F)) Variants.none c none) Set.univ (body (iD b) arg2 harg2 arg3 harg3) K } := by
  refine ⟨(?_, ?_), fun W K => ?run⟩
  case run =>
    unfold cond1 at h1
    unfold body
    simp only [cc0__fused_kernel_eq_skeleton]; unfold cc0__fused_kernel_skel
    unfold owns
    iintro ⟨⟨%f2, %hf2, H2⟩, ⟨%d3, %f3, -, H3⟩, Hx, Hn, HW, Hk⟩
    obtain rfl := harg2.eq_unread hf2
    sl_exec
    sl_step
    iapply Hk
    isplitl [H2]
    · iexists _; isplitr; swap; · iexact H2
      ipureintro; exact hf2
    isplitl [H3]; · iexists _; iexact H3
    isplitl [Hx]; · iexact Hx
    isplitl [Hn]; · iexact Hn
    iexists _; iexact HW

end Cert.KernelIdeal.Hand

end
-- ==== Proof.Table.lean ====
/-
  What the body keeps in its table, as functions of the scratch copy of `x16` and of the joined weights: for each of the
  seven windows of 2048 rows, the numerators (columns up to 768) and the denominators (the columns after), and what the
  last stage makes of them. Also: the eight pieces a run stores are one such block of the table.
-/
module

public import proofs.«01_k».proof.Proof.Run
public import Idealize.ShloMosaic.Lib.WritesUnit
public import Idealize.ShloMosaic.Lib.ValueIdx

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

/-- The numerators of a window's rows, a quarter (512 rows) at a time. -/
def numQ (xb : FVec F S2048x768 .bf16) (w : Vec F S768x2304 .bf16) (q : Fin 4) : FVec F S512x768 .bf16 :=
  if q.val = 0 then k0_pay16 (k0_pay15 xb w)
  else if q.val = 1 then k0_pay19 (k0_pay9 xb w) (k0_pay10 xb w) (k0_pay11 xb w)
  else if q.val = 2 then k0_pay22 (k0_pay9 xb w) (k0_pay10 xb w) (k0_pay11 xb w)
  else k0_pay2 (k0_pay9 xb w) (k0_pay10 xb w) (k0_pay11 xb w)

/-- The denominators of a window's rows, a quarter at a time, each repeated over 128 columns. -/
def denQ (xb : FVec F S2048x768 .bf16) (w : Vec F S768x2304 .bf16) (q : Fin 4) : FVec F S512x128 .bf16 :=
  if q.val = 0 then k0_pay17 (k0_pay14 xb w)
  else if q.val = 1 then k0_pay20 (k0_pay9 xb w) (k0_pay10 xb w) k0_pay12
  else if q.val = 2 then k0_pay23 (k0_pay9 xb w) (k0_pay10 xb w) k0_pay12
  else k0_pay3 (k0_pay9 xb w) (k0_pay10 xb w) k0_pay12

/-- Row `r`, column `k` of a window's block of the table. -/
def ndv (xb : FVec F S2048x768 .bf16) (w : Vec F S768x2304 .bf16) (r : Fin 2048) (k : Fin 896) : Elt F .bf16 :=
  if h : k.val < 768 then numQ xb w ⟨r.val / 512, by omega⟩ (ix2 ⟨r.val % 512, Nat.mod_lt _ (by omega)⟩ ⟨k.val, h⟩)
  else denQ xb w ⟨r.val / 512, by omega⟩ (ix2 ⟨r.val % 512, Nat.mod_lt _ (by omega)⟩ ⟨k.val - 768, by omega⟩)

/-- The window of a stride-2 point: every other row of 4096. -/
def xb2 (X : S8192x768.Idx → Elt F .bf16) (t : Fin 2) : FVec F S2048x768 .bf16 :=
  k0_pay7 fun j : S4096x768.Idx => X (ix2 ⟨4096 * t.val + (j 0).val, by have := (j 0).isLt; change _ < 4096 at this; omega⟩ (j 1))
/-- The window of the stride-4 point: every fourth row of all. -/
def xb4 (X : S8192x768.Idx → Elt F .bf16) : FVec F S2048x768 .bf16 := k0_pay6 X
/-- The window of a stride-1 point: 2048 rows running. -/
def xb1 (X : S8192x768.Idx → Elt F .bf16) (b : Fin 4) : FVec F S2048x768 .bf16 :=
  fun j => X (ix2 ⟨2048 * b.val + (j 0).val, by have := (j 0).isLt; change _ < 2048 at this; omega⟩ (j 1))

/-- The whole table while block `b` of the result is finished. -/
def tab (X : S8192x768.Idx → Elt F .bf16) (w : Vec F S768x2304 .bf16) (b : Fin 4) (r : Fin 8192) (k : Fin 896) : Elt F .bf16 :=
  ndv (if r.val < 2048 then xb2 X 0 else if r.val < 4096 then xb2 X 1 else if r.val < 6144 then xb4 X else xb1 X b) w
    ⟨r.val % 2048, Nat.mod_lt _ (by omega)⟩ k

/-- `n` rows of the table from row `o`. -/
def rows (T : Fin 8192 → Fin 896 → Elt F .bf16) (o n : ℕ) (h : o + n ≤ 8192) : (⟨2, ![n, 896]⟩ : Shape).Idx → Elt F .bf16 :=
  fun j => T ⟨o + (j 0).val, by have := (j 0).isLt; change _ < n at this; omega⟩ (j 1)

/-- Block `b` of the result, its two halves. -/
def outLo (X : S8192x768.Idx → Elt F .bf16) (w : Vec F S768x2304 .bf16) (b : Fin 4) : FVec F S1024x768 .f32 :=
  k0_pay5 (rows (tab X w b) 6144 1024 (by omega)) (rows (tab X w b) (1024 * b.val) 512 (by omega))
    (rows (tab X w b) (4096 + 512 * b.val) 256 (by omega))
def outHi (X : S8192x768.Idx → Elt F .bf16) (w : Vec F S768x2304 .bf16) (b : Fin 4) : FVec F S1024x768 .f32 :=
  k0_pay4 (rows (tab X w b) 7168 1024 (by omega)) (rows (tab X w b) (1024 * b.val + 512) 512 (by omega))
    (rows (tab X w b) (4096 + 512 * b.val + 256) 256 (by omega))

/-- Block `b` of the result. -/
def outv (X : S8192x768.Idx → Elt F .bf16) (w : Vec F S768x2304 .bf16) (b : Fin 4) : Vec F S2048x768 .f32 := fun y =>
  if h : (y 0).val < 1024 then outLo X w b (ix2 ⟨(y 0).val, h⟩ (y 1))
  else outHi X w b (ix2 ⟨(y 0).val - 1024, by have := (y 0).isLt; change _ < 2048 at this; omega⟩ (y 1))

/-! ## The stored pieces, read back -/

section Read

variable {sig' : RefSig} {κ : Kind} {sp : Space} (v : View sig' κ sp S8192x896 .bf16) (f : v.ty.Contents (Elt F))

/-- One quarter's two pieces: the rows of the quarter read its numerators and denominators, the others what was there. -/
theorem read_pair {o : ℕ} {off4 off3 : Fin 2 → ℕ} (h4 : off4 = ![o, 768]) (h3 : off3 = ![o, 0])
    (i4 : ∀ a, off4 a + S512x128.size a ≤ S8192x896.size a) (i3 : ∀ a, off3 a + S512x768.size a ≤ S8192x896.size a)
    (d : S512x128.Idx → Elt F .bf16) (n : S512x768.Idx → Elt F .bf16) (L : List (View.Piece (Elt F) S8192x896 .bf16)) (r : Fin 8192) (k : Fin 896) :
    v.read (Elt F) (v.writes (Elt F) f (⟨Rect.unit off4 S512x128.size i4, d⟩ :: ⟨Rect.unit off3 S512x768.size i3, n⟩ :: L)) (ix2 r k)
      = if h : o ≤ r.val ∧ r.val < o + 512 then
          (if hk : k.val < 768 then n (ix2 ⟨r.val - o, by omega⟩ ⟨k.val, hk⟩) else d (ix2 ⟨r.val - o, by omega⟩ ⟨k.val - 768, by omega⟩))
        else v.read (Elt F) (v.writes (Elt F) f L) (ix2 r k) := by
  split
  · next h =>
    split
    · next hk =>
      rw [View.read_writes_cons_unit_of_not_mem v f i4 d _ _ h4 1 (Or.inl hk)]
      exact View.read_writes_cons_unit_of_mem v f i3 n L _ (ix2 ⟨r.val - o, by omega⟩ ⟨k.val, hk⟩) h3
        (Fin.forall_fin_two.mpr ⟨show r.val = o + (r.val - o) by omega, show k.val = 0 + k.val by omega⟩)
    · next hk =>
      exact View.read_writes_cons_unit_of_mem v f i4 d _ _ (ix2 ⟨r.val - o, by omega⟩ ⟨k.val - 768, by omega⟩) h4
        (Fin.forall_fin_two.mpr ⟨show r.val = o + (r.val - o) by omega, show k.val = 768 + (k.val - 768) by omega⟩)
  · next h =>
    have hr : r.val < o ∨ o + 512 ≤ r.val := by omega
    rw [View.read_writes_cons_unit_of_not_mem v f i4 d _ _ h4 0 hr, View.read_writes_cons_unit_of_not_mem v f i3 n _ _ h3 0 hr]

/-- The pieces a run stores, last first: a window's block of the table. -/
def pieces (i : grid0.Coords) (xb : FVec F S2048x768 .bf16) (w : Vec F S768x2304 .bf16) : List (View.Piece (Elt F) S8192x896 .bf16) :=
  [⟨Rect.unit (k0_off4 i 1536#32) S512x128.size (k0_off4_inb i 3), k0_pay3 (k0_pay9 xb w) (k0_pay10 xb w) k0_pay12⟩,
    ⟨Rect.unit (k0_off3 i 1536#32) S512x768.size (k0_off3_inb i 3), k0_pay2 (k0_pay9 xb w) (k0_pay10 xb w) (k0_pay11 xb w)⟩,
    ⟨Rect.unit (k0_off4 i 1024#32) S512x128.size (k0_off4_inb i 2), k0_pay23 (k0_pay9 xb w) (k0_pay10 xb w) k0_pay12⟩,
    ⟨Rect.unit (k0_off3 i 1024#32) S512x768.size (k0_off3_inb i 2), k0_pay22 (k0_pay9 xb w) (k0_pay10 xb w) (k0_pay11 xb w)⟩,
    ⟨Rect.unit (k0_off4 i 512#32) S512x128.size (k0_off4_inb i 1), k0_pay20 (k0_pay9 xb w) (k0_pay10 xb w) k0_pay12⟩,
    ⟨Rect.unit (k0_off3 i 512#32) S512x768.size (k0_off3_inb i 1), k0_pay19 (k0_pay9 xb w) (k0_pay10 xb w) (k0_pay11 xb w)⟩,
    ⟨Rect.unit (k0_off4 i 0#32) S512x128.size (k0_off4_inb i 0), k0_pay17 (k0_pay14 xb w)⟩,
    ⟨Rect.unit (k0_off3 i 0#32) S512x768.size (k0_off3_inb i 0), k0_pay16 (k0_pay15 xb w)⟩]

/-- The table's row a point's block starts at. -/
def base (i : grid0.Coords) : ℕ := if (i 0).val < 3 then 2048 * (i 0).val else 6144

theorem off3_eq (i : grid0.Coords) (q : Fin 4) : k0_off3 i (BitVec.ofNat 32 (512 * q.val)) = ![base i + 512 * q.val, 0] := by
  have hi : (i 0).val < 7 := (i 0).isLt
  unfold k0_off3 base
  generalize (i 0).val = n at *
  revert q; interval_cases n <;> decide
theorem off4_eq (i : grid0.Coords) (q : Fin 4) : k0_off4 i (BitVec.ofNat 32 (512 * q.val)) = ![base i + 512 * q.val, 768] := by
  have hi : (i 0).val < 7 := (i 0).isLt
  unfold k0_off4 base
  generalize (i 0).val = n at *
  revert q; interval_cases n <;> decide

/-- After a run's pieces: the block's rows hold the block, the others what they held. -/
theorem read_pieces (i : grid0.Coords) (xb : FVec F S2048x768 .bf16) (w : Vec F S768x2304 .bf16) (r : Fin 8192) (k : Fin 896) :
    v.read (Elt F) (v.writes (Elt F) f (pieces i xb w)) (ix2 r k)
      = if h : base i ≤ r.val ∧ r.val < base i + 2048 then ndv xb w ⟨r.val - base i, by omega⟩ k else v.read (Elt F) f (ix2 r k) := by
  unfold pieces
  have a3 : k0_off4 i 1536#32 = ![base i + 512 * 3, 768] := off4_eq i 3
  have a2 : k0_off4 i 1024#32 = ![base i + 512 * 2, 768] := off4_eq i 2
  have a1 : k0_off4 i 512#32 = ![base i + 512 * 1, 768] := off4_eq i 1
  have a0 : k0_off4 i 0#32 = ![base i + 512 * 0, 768] := off4_eq i 0
  have b3 : k0_off3 i 1536#32 = ![base i + 512 * 3, 0] := off3_eq i 3
  have b2 : k0_off3 i 1024#32 = ![base i + 512 * 2, 0] := off3_eq i 2
  have b1 : k0_off3 i 512#32 = ![base i + 512 * 1, 0] := off3_eq i 1
  have b0 : k0_off3 i 0#32 = ![base i + 512 * 0, 0] := off3_eq i 0
  rw [read_pair v f a3 b3, read_pair v f a2 b2, read_pair v f a1 b1, read_pair v f a0 b0]
  have e (q : ℕ) (hq : q < 4) (h : base i + 512 * q ≤ r.val ∧ r.val < base i + 512 * q + 512) : (r.val - base i) / 512 = q ∧ (r.val - base i) % 512 = r.val - (base i + 512 * q) := by omega
  by_cases h : base i ≤ r.val ∧ r.val < base i + 2048
  · rw [dif_pos h]
    have key : ∀ (q : ℕ) (hq : q < 4) (hr : base i + 512 * q ≤ r.val ∧ r.val < base i + 512 * q + 512),
        ndv xb w ⟨r.val - base i, by omega⟩ k = if hk : k.val < 768 then numQ xb w ⟨q, hq⟩ (ix2 ⟨r.val - (base i + 512 * q), by omega⟩ ⟨k.val, hk⟩)
          else denQ xb w ⟨q, hq⟩ (ix2 ⟨r.val - (base i + 512 * q), by omega⟩ ⟨k.val - 768, by omega⟩) := by
      intro q hq hr
      obtain ⟨e1, e2⟩ := e q hq hr
      unfold ndv
      simp only [e1, e2]
    split
    · next h3 => rw [key 3 (by omega) h3]; rfl
    · split
      · next h3 => rw [key 2 (by omega) h3]; rfl
      · split
        · next h3 => rw [key 1 (by omega) h3]; rfl
        · split
          · next h3 => rw [key 0 (by omega) h3]; rfl
          · omega
  · rw [dif_neg h, dif_neg (by omega), dif_neg (by omega), dif_neg (by omega), dif_neg (by omega)]; rfl

end Read

end Cert.KernelIdeal.Hand

end
-- ==== Proof.Frame.lean ====
/-
  The launch: what the scratch buffers hold between grid points, the body at each point by the runs of
  `Proof.Run`, and the whole program's run, at any floats.
-/
module

public import proofs.«01_k».proof.Proof.Table
public import Idealize.ShloMosaic.Lib.WholeRead

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main up to the region, at this proof's user algebra. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own transfer semaphore, and the buffer its transfer reads. -/
abbrev osem0 : Fin 1 → SemLoc sig := fun j => (![SemLoc.dma 3] : Fin 1 → SemLoc sig) j
theorem ownSemFacts0 : Pipeline.OwnSemFacts spec0 osem0 := by decide
def H0 : Finset (Ref sig .tc) := {main_v1}
theorem H0_sub : H0 ⊆ Pipeline.restRefs sig spec0 := by decide

theorem PhiD0_eq (c : Dev nD) :
    (Pipeline.ΦD osem0 spec0 H0 (V m) c : sProp 𝕄)
      = iprop(iprop((∃ f, ptAll c mXs f) ∗ (∃ f, ptAll c mNd f)) ∗ (∃ r, prngReg c r)
          ∗ semVal ((c : Thread nD τ), SemLoc.dma 3) 0 ∗ ptAll c mX (V m c main_v1)) := by
  rw [Pipeline.ΦD_eq, scopedRest0_eq, Pipeline.ownSems0_eq_of_list c osem0 [0] (by decide) (by decide),
    BI.bigSep_eq_bigSepL_of_eq [main_v1] (by decide) (by decide)]
  rfl

/-! ## What the scratch buffers hold -/

/-- `x16`, and the joined weights, as the kernel finds them. -/
def xin (c : Dev nD) : S8192x768.Idx → Elt F .bf16 := mX.view.read (Elt F) (V m c main_v1)
def win (c : Dev nD) : Vec F S768x2304 .bf16 := iblk m c 0 t0_0

/-- Before point `t` the table's first `min t 3` blocks are those of the kernel's windows. -/
def Known (c : Dev nD) (t : ℕ) (f : BufOf (F := F) c mNd) : Prop :=
  ∀ (r : Fin 8192) (k : Fin 896), r.val < 2048 * min t 3 → mNd.view.read (Elt F) f (ix2 r k) = tab (xin m c) (win m c) 0 r k

/-- The scratch buffers before point `t`: after the first point the copy is `x16`. -/
def scr (c : Dev nD) (t : ℕ) : sProp 𝕄 :=
  iprop(∃ (fx : BufOf (F := F) c mXs) (fn : BufOf (F := F) c mNd),
    ⌜(t ≠ 0 → mXs.view.read (Elt F) fx = xin m c) ∧ Known m c t fn⌝ ∗ ptAll c mXs fx ∗ ptAll c mNd fn)

def inv (c : Dev nD) (t : ℕ) : sProp 𝕄 :=
  iprop(scr m c t ∗ (∃ r, prngReg c r) ∗ semVal ((c : Thread nD τ), SemLoc.dma 3) 0 ∗ ptAll c mX (V m c main_v1))

/-- The proof data: the windows' arrays as found; the weights' block left in place, block `t - 3` of the result after
    point `t`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outv (xin m c) (win m c) ⟨min (t.val - 3) 3, by omega⟩
  Φ t := inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outv (xin m c) (win m c) ⟨min (t.val - 3) 3, by omega⟩ := by
  dsimp only [dats]

/-- The weights' block is the same at every point. -/
theorem iblk_eq (c : Dev nD) (t : Fin cfg0.N) : iblk m c 0 t = win m c := rfl

theorem before0_0 (c : Dev nD) (t : Fin cfg0.N) (d) : (dats m 0 c).before 0 t d = win m c :=
  (((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)).trans (iblk_eq m c t)

/-! ## The table, a point at a time -/

theorem tab_lt (X : S8192x768.Idx → Elt F .bf16) (w : Vec F S768x2304 .bf16) (b b' : Fin 4) (r : Fin 8192) (k : Fin 896) (h : r.val < 6144) :
    tab X w b r k = tab X w b' r k := by
  unfold tab; simp only [h, if_true]

theorem Known.zero (c : Dev nD) (f : BufOf (F := F) c mNd) : Known m c 0 f := fun r k h => by simp at h

/-- One more block. -/
theorem Known.step {c : Dev nD} {t : ℕ} {f : BufOf (F := F) c mNd} (h : Known m c t f) (ht : t < 3) {i : grid0.Coords} (hi : base i = 2048 * t)
    {xb : FVec F S2048x768 .bf16} (hxb : xb = if t = 0 then xb2 (xin m c) 0 else if t = 1 then xb2 (xin m c) 1 else xb4 (xin m c)) :
    Known m c (t + 1) (mNd.view.writes (Elt F) f (pieces i xb (win m c))) := by
  intro r k hr
  rw [read_pieces]
  split
  · next hb =>
    unfold tab
    rw [hi] at hb
    rw [Nat.min_eq_left (by omega)] at hr
    have e : r.val - base i = r.val % 2048 := by omega
    simp only [e]
    have : xb = (if r.val < 2048 then xb2 (xin m c) 0 else if r.val < 4096 then xb2 (xin m c) 1 else if r.val < 6144 then xb4 (xin m c) else xb1 (xin m c) 0) := by
      rw [hxb]
      have : t = 0 ∨ t = 1 ∨ t = 2 := by omega
      rcases this with rfl | rfl | rfl
      · rw [if_pos rfl, if_pos (by omega)]
      · rw [if_neg (by omega), if_pos rfl, if_neg (by omega), if_pos (by omega)]
      · rw [if_neg (by omega), if_neg (by omega), if_neg (by omega), if_neg (by omega), if_pos (by omega)]
    rw [this]
  · next hb =>
    rw [hi] at hb
    rw [Nat.min_eq_left (by omega)] at hr
    refine h r k ?_
    rw [Nat.min_eq_left (by omega)]
    omega

/-- While a block of the result is finished, the whole table is known. -/
theorem Known.full {c : Dev nD} {t : ℕ} {f : BufOf (F := F) c mNd} (h : Known m c t f) (ht : 3 ≤ t) (b : Fin 4) (r : Fin 8192) (k : Fin 896) :
    mNd.view.read (Elt F) (mNd.view.writes (Elt F) f (pieces (iD b) (xb1 (xin m c) b) (win m c))) (ix2 r k)
      = tab (xin m c) (win m c) b r k := by
  have hb : base (iD b) = 6144 := by unfold base iD; simp
  rw [read_pieces]
  split
  · next h' =>
    rw [hb] at h'
    have e : r.val - base (iD b) = r.val % 2048 := by omega
    unfold tab
    simp only [e]
    rw [if_neg (by omega), if_neg (by omega), if_neg (by omega)]
  · next h' =>
    rw [hb] at h'
    rw [h r k (by rw [Nat.min_eq_right ht]; omega)]
    exact tab_lt _ _ _ _ _ _ (by omega)

/-- The stride-1 block leaves the others in place. -/
theorem Known.keep {c : Dev nD} {t : ℕ} {f : BufOf (F := F) c mNd} (h : Known m c t f) (ht : 3 ≤ t) (b : Fin 4) :
    Known m c (t + 1) (mNd.view.writes (Elt F) f (pieces (iD b) (xb1 (xin m c) b) (win m c))) := fun r k hr => by
  rw [h.full m ht b]
  rw [Nat.min_eq_right (by omega)] at hr
  exact tab_lt _ _ _ _ _ _ (by omega)

/-! ## The runs' pieces -/

/-- A load of the whole of the weights' block reads it. -/
theorem load_w {arg2 : Memref sig .tc .vmem S768x2304 .bf16} (harg2 : arg2.IsWhole) (X2 : S768x2304.Idx → Elt F .bf16) :
    View.readAt (Elt F) arg2.view (Rect.unit ![0, 0] S768x2304.size inb_S768x2304_S768x2304_0_0).toLoadRect (harg2.unread X2) = X2 := by
  funext j
  rw [Memref.IsWhole.readAt_unread]
  exact congrArg X2 (funext fun a => Fin.ext (by
    show (![0, 0] : Fin 2 → ℕ) a + 1 * (j a).val = (j a).val
    have : (![0, 0] : Fin 2 → ℕ) a = 0 := by revert a; decide
    omega))

/-- A load of rows of a buffer of 768 columns reads those rows. -/
theorem load_rows {X : S8192x768.Idx → Elt F .bf16} {n o : ℕ} {off : Fin 2 → ℕ} (heq : off = ![o, 0])
    (inb : ∀ a, off a + (⟨2, ![n, 768]⟩ : Shape).size a ≤ S8192x768.size a) (hn : o + n ≤ 8192)
    {c : Dev nD} {fx : BufOf (F := F) c mXs} (hx : mXs.view.read (Elt F) fx = X) :
    View.readAt (Elt F) mXs.view (Rect.unit (s := S8192x768) off (⟨2, ![n, 768]⟩ : Shape).size inb).toLoadRect fx
      = fun j : (⟨2, ![n, 768]⟩ : Shape).Idx => X (ix2 ⟨o + (j 0).val, by have := (j 0).isLt; change _ < n at this; omega⟩ (j 1)) := by
  subst heq; subst hx
  funext j
  rw [View.readAt_apply]
  exact congrArg _ (funext fun a => Fin.ext (by
    revert a; exact Fin.forall_fin_two.mpr ⟨show o + 1 * (j 0).val = o + (j 0).val by omega, show 0 + 1 * (j 1).val = (j 1).val by omega⟩))

theorem off2_eq (i : grid0.Coords) (t : Fin 2) (hi : (i 0).val = t.val) : k0_off2 i = ![4096 * t.val, 0] := by
  unfold k0_off2
  rw [hi]
  clear hi
  revert t; decide
theorem off1_eq (b : Fin 4) : k0_off1 (iD b) = ![2048 * b.val, 0] := by revert b; decide

section Runs

variable {c : Dev nD} {arg2 : Memref sig .tc .vmem S768x2304 .bf16} {harg2 : arg2.IsWhole} {arg3 : Memref sig .tc .vmem S2048x768 .f32}
  {harg3 : arg3.IsWhole} {X2 : S768x2304.Idx → Elt F .bf16} {fx : BufOf (F := F) c mXs} {fn : BufOf (F := F) c mNd} {X : S8192x768.Idx → Elt F .bf16}

theorem runB_eq {i : grid0.Coords} {h1 : ¬ cond1 i = 1#1} {h2 : ¬ k0_cond2 i = 1#1} {h4 : ¬ k0_cond4 i = 1#1} (t : Fin 2) (hi : (i 0).val = t.val)
    (hx : mXs.view.read (Elt F) fx = X) :
    (runB c i h1 h2 h4 arg2 harg2 arg3 harg3 X2 fx fn).1 = pieces i (xb2 X t) X2 := by
  have e : (runB c i h1 h2 h4 arg2 harg2 arg3 harg3 X2 fx fn).1
      = pieces i (k0_pay7 (View.readAt (Elt F) mXs.view (Rect.unit (s := S8192x768) (k0_off2 i) S4096x768.size (k0_off2_inb i h2)).toLoadRect fx))
          (View.readAt (Elt F) arg2.view (Rect.unit ![0, 0] S768x2304.size inb_S768x2304_S768x2304_0_0).toLoadRect (harg2.unread X2)) := rfl
  rw [e, load_w, load_rows (c := c) (off2_eq i t hi) _ (by omega) hx]
  rfl

theorem runA_eq {i : grid0.Coords} {h1 : cond1 i = 1#1} {h2 : ¬ k0_cond2 i = 1#1} {h4 : ¬ k0_cond4 i = 1#1} (t : Fin 2) (hi : (i 0).val = t.val)
    {fh : BufOf (F := F) c mX} (hx : mX.view.read (Elt F) fh = X) :
    mXs.view.read (Elt F) (runA c i h1 h2 h4 arg2 harg2 arg3 harg3 X2 fh fx fn).1.1 = X
      ∧ (runA c i h1 h2 h4 arg2 harg2 arg3 harg3 X2 fh fx fn).1.2 = pieces i (xb2 X t) X2 := by
  have hx' : mXs.view.read (Elt F) (mXs.view.write (Elt F) fx (runA.sl.dma0 c fh) Finset.univ) = X :=
    (View.read_write_univ _ _).trans (by unfold runA.sl.dma0; exact hx)
  refine ⟨?x, ?_⟩
  case x => unfold runA; dsimp only; exact hx'
  have e : (runA c i h1 h2 h4 arg2 harg2 arg3 harg3 X2 fh fx fn).1.2
      = pieces i (k0_pay7 (View.readAt (Elt F) mXs.view (Rect.unit (s := S8192x768) (k0_off2 i) S4096x768.size (k0_off2_inb i h2)).toLoadRect
            (mXs.view.write (Elt F) fx (runA.sl.dma0 c fh) Finset.univ)))
          (View.readAt (Elt F) arg2.view (Rect.unit ![0, 0] S768x2304.size inb_S768x2304_S768x2304_0_0).toLoadRect (harg2.unread X2)) := rfl
  rw [e, load_w, load_rows (c := c) (off2_eq i t hi) _ (by omega) hx']
  rfl

theorem runC_eq {i : grid0.Coords} {h1 : ¬ cond1 i = 1#1} {h2 : k0_cond2 i = 1#1} {h3 : ¬ k0_cond3 i = 1#1} {h4 : ¬ k0_cond4 i = 1#1}
    (hx : mXs.view.read (Elt F) fx = X) :
    (runC c i h1 h2 h3 h4 arg2 harg2 arg3 harg3 X2 fx fn).1 = pieces i (xb4 X) X2 := by
  have e : (runC c i h1 h2 h3 h4 arg2 harg2 arg3 harg3 X2 fx fn).1
      = pieces i (k0_pay6 (View.readAt (Elt F) mXs.view (Rect.unit (s := S8192x768) ![0, 0] S8192x768.size inb_S8192x768_S8192x768_0_0).toLoadRect fx))
          (View.readAt (Elt F) arg2.view (Rect.unit ![0, 0] S768x2304.size inb_S768x2304_S768x2304_0_0).toLoadRect (harg2.unread X2)) := rfl
  have e' : (View.readAt (Elt F) mXs.view (Rect.unit (s := S8192x768) ![0, 0] S8192x768.size inb_S8192x768_S8192x768_0_0).toLoadRect fx) = X := by
    rw [load_rows (c := c) (n := 8192) rfl _ (by omega) hx]
    funext j
    exact congrArg X (funext fun a => Fin.ext (by
      revert a; exact Fin.forall_fin_two.mpr ⟨show 0 + (j 0).val = (j 0).val by omega, rfl⟩))
  rw [e, load_w, e']
  rfl

/-- A load of rows of the table, where the table is known. -/
theorem load_tab {T : Fin 8192 → Fin 896 → Elt F .bf16} {n o : ℕ} {off : Fin 2 → ℕ} (heq : off = ![o, 0])
    (inb : ∀ a, off a + (⟨2, ![n, 896]⟩ : Shape).size a ≤ S8192x896.size a) (hn : o + n ≤ 8192) {f : BufOf (F := F) c mNd}
    (hf : ∀ r k, o ≤ r.val → mNd.view.read (Elt F) f (ix2 r k) = T r k) :
    View.readAt (Elt F) mNd.view (Rect.unit (s := S8192x896) off (⟨2, ![n, 896]⟩ : Shape).size inb).toLoadRect f = rows T o n hn := by
  subst heq
  funext j
  rw [View.readAt_apply]
  have hj : (j 0).val < n := (j 0).isLt
  refine Eq.trans (congrArg _ (funext fun a => Fin.ext ?_)) (hf ⟨o + (j 0).val, by omega⟩ (j 1) (Nat.le_add_right _ _))
  revert a; exact Fin.forall_fin_two.mpr ⟨show o + 1 * (j 0).val = o + (j 0).val by omega, show 0 + 1 * (j 1).val = (j 1).val by omega⟩

/-- The pieces of a result block's halves. -/
def outPieces (X : S8192x768.Idx → Elt F .bf16) (w : Vec F S768x2304 .bf16) (b : Fin 4) : List (View.Piece (Elt F) S2048x768 .f32) :=
  [⟨Rect.unit ![1024, 0] S1024x768.size inb_S2048x768_S1024x768_1024_0, outHi X w b⟩,
    ⟨Rect.unit ![0, 0] S1024x768.size inb_S2048x768_S1024x768_0_0, outLo X w b⟩]

/-- The pieces of a result block, from the pieces `P` stored in the table before. -/
def outOf (b : Fin 4) (h4 : k0_cond4 (iD b) = 1#1) (fn : BufOf (F := F) c mNd) (P : List (View.Piece (Elt F) S8192x896 .bf16)) :
    List (View.Piece (Elt F) S2048x768 .f32) :=
  [⟨Rect.unit (s := S2048x768) ![1024, 0] S1024x768.size inb_S2048x768_S1024x768_1024_0,
      k0_pay4 (View.readAt (Elt F) mNd.view (Rect.unit (s := S8192x896) ![7168, 0] S1024x896.size inb_S8192x896_S1024x896_7168_0).toLoadRect
          (mNd.view.writes (Elt F) mNd.view.junk P))
        (View.readAt (Elt F) mNd.view (Rect.unit (s := S8192x896) (k0_off5 (iD b) 512#32) S512x896.size (k0_off5_inb (iD b) h4 1)).toLoadRect
          (mNd.view.writes (Elt F) fn P))
        (View.readAt (Elt F) mNd.view (Rect.unit (s := S8192x896) (k0_off6 (iD b) 256#32) S256x896.size (k0_off6_inb (iD b) h4 1)).toLoadRect
          (mNd.view.writes (Elt F) fn P))⟩,
    ⟨Rect.unit (s := S2048x768) ![0, 0] S1024x768.size inb_S2048x768_S1024x768_0_0,
      k0_pay5 (View.readAt (Elt F) mNd.view (Rect.unit (s := S8192x896) ![6144, 0] S1024x896.size inb_S8192x896_S1024x896_6144_0).toLoadRect
          (mNd.view.writes (Elt F) mNd.view.junk P))
        (View.readAt (Elt F) mNd.view (Rect.unit (s := S8192x896) (k0_off5 (iD b) 0#32) S512x896.size (k0_off5_inb (iD b) h4 0)).toLoadRect
          (mNd.view.writes (Elt F) fn P))
        (View.readAt (Elt F) mNd.view (Rect.unit (s := S8192x896) (k0_off6 (iD b) 0#32) S256x896.size (k0_off6_inb (iD b) h4 0)).toLoadRect
          (mNd.view.writes (Elt F) fn P))⟩]

theorem runD_eq {b : Fin 4} {h1 : ¬ cond1 (iD b) = 1#1} {h2 : k0_cond2 (iD b) = 1#1} {h3 : k0_cond3 (iD b) = 1#1} {h4 : k0_cond4 (iD b) = 1#1}
    (hx : mXs.view.read (Elt F) fx = X)
    (hn : ∀ r k, mNd.view.read (Elt F) (mNd.view.writes (Elt F) fn (pieces (iD b) (xb1 X b) X2)) (ix2 r k) = tab X X2 b r k) :
    (runD c b h1 h2 h3 h4 arg2 harg2 arg3 harg3 X2 fx fn).1 = (pieces (iD b) (xb1 X b) X2, outPieces X X2 b) := by
  have e : (runD c b h1 h2 h3 h4 arg2 harg2 arg3 harg3 X2 fx fn).1.1
      = pieces (iD b) (View.readAt (Elt F) mXs.view (Rect.unit (s := S8192x768) (k0_off1 (iD b)) S2048x768.size (k0_off1_inb (iD b) h2 h3)).toLoadRect fx)
          (View.readAt (Elt F) arg2.view (Rect.unit ![0, 0] S768x2304.size inb_S768x2304_S768x2304_0_0).toLoadRect (harg2.unread X2)) := rfl
  rw [load_w, load_rows (c := c) (off1_eq b) _ (by omega) hx] at e
  change _ = pieces (iD b) (xb1 X b) X2 at e
  refine Prod.ext e ?_
  have e2 : (runD c b h1 h2 h3 h4 arg2 harg2 arg3 harg3 X2 fx fn).1.2
      = outOf b h4 fn (runD c b h1 h2 h3 h4 arg2 harg2 arg3 harg3 X2 fx fn).1.1 := rfl
  have hj : ∀ (f : BufOf (F := F) c mNd) (r : Fin 8192) (k : Fin 896), 6144 ≤ r.val →
      mNd.view.read (Elt F) (mNd.view.writes (Elt F) f (pieces (iD b) (xb1 X b) X2)) (ix2 r k) = tab X X2 b r k := by
    intro f r k h
    have hb : base (iD b) = 6144 := by unfold base iD; simp
    have := hn r k
    rw [read_pieces, dif_pos (by omega)] at this
    rw [read_pieces, dif_pos (by omega)]
    exact this
  rw [e2, e]
  unfold outOf outPieces outHi outLo
  rw [load_tab (c := c) (T := tab X X2 b) (o := 7168) rfl _ (by omega) (fun r k h => hj mNd.view.junk r k (by omega)),
    load_tab (c := c) (T := tab X X2 b) (o := 6144) rfl _ (by omega) (fun r k h => hj mNd.view.junk r k (by omega)),
    load_tab (c := c) (T := tab X X2 b) (o := 1024 * b.val + 512) (off := k0_off5 (iD b) 512#32) ClosedOff.eq _ (by omega) (fun r k _ => hn r k),
    load_tab (c := c) (T := tab X X2 b) (o := 1024 * b.val) (off := k0_off5 (iD b) 0#32) ClosedOff.eq _ (by omega) (fun r k _ => hn r k),
    load_tab (c := c) (T := tab X X2 b) (o := 4096 + 512 * b.val + 256) (off := k0_off6 (iD b) 256#32) ClosedOff.eq _ (by omega) (fun r k _ => hn r k),
    load_tab (c := c) (T := tab X X2 b) (o := 4096 + 512 * b.val) (off := k0_off6 (iD b) 0#32) ClosedOff.eq _ (by omega) (fun r k _ => hn r k)]

/-- The result block's pieces, read back. -/
theorem read_outPieces {sig' : RefSig} {κ : Kind} {sp : Space} (v : View sig' κ sp S2048x768 .f32) (f : v.ty.Contents (Elt F))
    (X : S8192x768.Idx → Elt F .bf16) (w : Vec F S768x2304 .bf16) (b : Fin 4) :
    v.read (Elt F) (v.writes (Elt F) f (outPieces X w b)) = outv X w b := by
  funext y
  have hy : (y 0).val < 2048 := (y 0).isLt
  unfold outPieces outv
  split
  · next h =>
    rw [View.read_writes_cons_unit_of_not_mem v f _ _ _ _ rfl 0 (Or.inl h)]
    exact View.read_writes_cons_unit_of_mem v f _ _ _ y (ix2 ⟨(y 0).val, h⟩ (y 1)) rfl
      (Fin.forall_fin_two.mpr ⟨show (y 0).val = 0 + (y 0).val by omega, show (y 1).val = 0 + (y 1).val by omega⟩)
  · next h =>
    exact View.read_writes_cons_unit_of_mem v f _ _ _ y (ix2 ⟨(y 0).val - 1024, by omega⟩ (y 1)) rfl
      (Fin.forall_fin_two.mpr ⟨show (y 0).val = 1024 + ((y 0).val - 1024) by omega, show (y 1).val = 0 + (y 1).val by omega⟩)

end Runs

end Cert.KernelIdeal.Hand

end
-- ==== Proof.Launch.lean ====
/-
  The body at each grid point, and the whole program's run to its end, at any floats.
-/
module

public import proofs.«01_k».proof.Proof.Frame

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Coordinates and conditions at each point -/

theorem coords_val (t : Fin cfg0.N) : (grid0.coords t (0 : Fin 1)).val = t.val := by
  have h : ∀ t : Fin grid0.N, (grid0.coords t (0 : Fin 1)).val = t.val := by decide
  exact h t

theorem coords_D (t : Fin cfg0.N) (b : Fin 4) (h : t.val = b.val + 3) : grid0.coords t = iD b := funext fun a => by
  have ha : a = (0 : Fin 1) := Subsingleton.elim (α := Fin 1) _ _
  subst ha
  exact Fin.ext ((coords_val t).trans h)

theorem base_coords (t : Fin cfg0.N) (h : t.val < 3) : base (grid0.coords t) = 2048 * t.val := by
  have e : (grid0.coords t 0).val = t.val := coords_val t
  unfold base; rw [e, if_pos h]

/-! ## The body's pre- and postcondition -/

/-- The output window's buffer after the body, as the pipeline asks for it. -/
def outPost (c : Dev nD) (t : Fin cfg0.N) : sProp 𝕄 :=
  match cfg0.idle 1 (cfg0.grid.coords t) with
  | true =>
    match (cfg0.win 1).flush t with
    | false => iprop(∃ d, owns (c : Thread nD τ) (st0_1 t) fullShare ((dats m 0 c).before 1 t d))
    | true => owns (c : Thread nD τ) (st0_1 t) fullShare ((dats m 0 c).after 1 t)
  | false => owns (c : Thread nD τ) (st0_1 t) fullShare ((dats m 0 c).after 1 t)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ outPost m c t)

theorem outPost_idle (c : Dev nD) (t : Fin cfg0.N) (hi : cfg0.idle 1 (cfg0.grid.coords t) = true) (hf : (cfg0.win 1).flush t = false) :
    outPost m c t = iprop(∃ d, owns (c : Thread nD τ) (st0_1 t) fullShare ((dats m 0 c).before 1 t d)) := by
  unfold outPost; rw [hi]; simp only; rw [hf]

theorem outPost_live (c : Dev nD) (t : Fin cfg0.N) (hi : cfg0.idle 1 (cfg0.grid.coords t) = false) :
    outPost m c t = owns (c : Thread nD τ) (st0_1 t) fullShare ((dats m 0 c).after 1 t) := by
  unfold outPost; rw [hi]

/-- The points before the last four leave the output window's buffer as they found it; the last four fill it. -/
theorem idle_lt : ∀ t : Fin grid0.N, t.val < 3 → cfg0.idle 1 (cfg0.grid.coords t) = true ∧ (cfg0.win 1).flush t = false := by decide
theorem live_ge : ∀ t : Fin grid0.N, 3 ≤ t.val → cfg0.idle 1 (cfg0.grid.coords t) = false := by decide

theorem conds : ∀ t : Fin grid0.N, (cond1 (grid0.coords t) = 1#1 ↔ t.val = 0) ∧ (k0_cond2 (grid0.coords t) = 1#1 ↔ 2 ≤ t.val)
    ∧ (2 ≤ t.val → (k0_cond3 (grid0.coords t) = 1#1 ↔ 3 ≤ t.val)) ∧ (k0_cond4 (grid0.coords t) = 1#1 ↔ 3 ≤ t.val) := by decide

/-- The first point. -/
theorem sound_A (c : Dev nD) (t : Fin cfg0.N) (ht : t.val = 0) :
    bodyPre m c t ⊢ wp frame (wpE (defs₀ (F := F)) Variants.none c none) Set.univ (bodyAt0 t) (fun _ => bodyPost m c t) := by
  obtain ⟨k1, k2, k3, k4⟩ := conds t
  have h1 := k1.mpr ht
  have h2 : ¬ k0_cond2 (grid0.coords t) = 1#1 := fun h => by have := k2.mp h; omega
  have h4 : ¬ k0_cond4 (grid0.coords t) = 1#1 := fun h => by have := k4.mp h; omega
  obtain ⟨hid, hfl⟩ := idle_lt t (by omega)
  unfold bodyPre bodyPost
  rw [outPost_idle m c t hid hfl, after0_0, iblk_eq]
  simp only [before0_0]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv scr
  iintro ⟨⟨⟨%fx, %fn, %hk, Hx, Hn⟩, Hg, Hs, Hh⟩, ⟨%W, -, HW⟩, ⟨%d0, H0⟩, H1⟩
  iapply ((runA c (grid0.coords t) h1 h2 h4 (st0_0 t) (hstage0_0 ((cfg0.slots t 0).cast nbuf0_0)) (st0_1 t) (hstage0_1 ((cfg0.slots t 1).cast nbuf0_1))
    (win m c) (V m c main_v1) fx fn).2 W _)
  isplitl [H0]; · iexact H0
  isplitl [Hx]; · iexact Hx
  isplitl [Hn]; · iexact Hn
  isplitl [Hs]; · iexact Hs
  isplitl [Hh]; · iexact Hh
  isplitl [HW]; · iexact HW
  iintro ⟨H0, Hx, Hn, Hs, Hh, ⟨%W', HW'⟩⟩
  isplitl [Hx Hn Hg Hs Hh]
  · isplitl [Hx Hn]
    · iexists _, _
      isplitr; swap
      · isplitl [Hx]; · iexact Hx
        iexact Hn
      ipureintro
      obtain ⟨e1, e2⟩ := runA_eq (arg2 := st0_0 t) (arg3 := st0_1 t) (harg2 := hstage0_0 ((cfg0.slots t 0).cast nbuf0_0)) (harg3 := hstage0_1 ((cfg0.slots t 1).cast nbuf0_1))
        (h1 := h1) (h2 := h2) (h4 := h4) (X2 := win m c) (fx := fx) (fn := fn) (0 : Fin 2) ((coords_val t).trans ht) (fh := V m c main_v1) (X := xin m c) rfl
      refine ⟨fun _ => e1, ?_⟩
      rw [e2]
      exact hk.2.step m (by omega) (base_coords t (by omega)) (by rw [if_pos ht])
    isplitl [Hg]; · iexact Hg
    isplitl [Hs]; · iexact Hs
    iexact Hh
  isplitl [HW']
  · iexists W'; isplitr; · ipureintro; exact fun _ _ => Or.inl trivial
    iexact HW'
  isplitl [H0]; · iexact H0
  iexact H1

/-- The second point: a stride-2 point. -/
theorem sound_B (c : Dev nD) (t : Fin cfg0.N) (ht : t.val = 1) :
    bodyPre m c t ⊢ wp frame (wpE (defs₀ (F := F)) Variants.none c none) Set.univ (bodyAt0 t) (fun _ => bodyPost m c t) := by
  obtain ⟨k1, k2, k3, k4⟩ := conds t
  have h1 : ¬ cond1 (grid0.coords t) = 1#1 := fun h => by have := k1.mp h; omega
  have h2 : ¬ k0_cond2 (grid0.coords t) = 1#1 := fun h => by have := k2.mp h; omega
  have h4 : ¬ k0_cond4 (grid0.coords t) = 1#1 := fun h => by have := k4.mp h; omega
  unfold bodyPre bodyPost
  obtain ⟨hid, hfl⟩ := idle_lt t (by omega)
  rw [outPost_idle m c t hid hfl, after0_0, iblk_eq]
  simp only [before0_0]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv scr
  iintro ⟨⟨⟨%fx, %fn, %hk, Hx, Hn⟩, Hg, Hs, Hh⟩, ⟨%W, -, HW⟩, ⟨%d0, H0⟩, H1⟩
  have hx := hk.1 (by omega)
  have e := runB_eq (arg2 := st0_0 t) (arg3 := st0_1 t) (harg2 := hstage0_0 ((cfg0.slots t 0).cast nbuf0_0)) (harg3 := hstage0_1 ((cfg0.slots t 1).cast nbuf0_1))
    (h1 := h1) (h2 := h2) (h4 := h4) (X2 := win m c) (fn := fn) (1 : Fin 2) ((coords_val t).trans ht) hx
  iapply ((runB c (grid0.coords t) h1 h2 h4 (st0_0 t) (hstage0_0 ((cfg0.slots t 0).cast nbuf0_0)) (st0_1 t) (hstage0_1 ((cfg0.slots t 1).cast nbuf0_1))
    (win m c) fx fn).2 W _)
  isplitl [H0]; · iexact H0
  isplitl [Hx]; · iexact Hx
  isplitl [Hn]; · iexact Hn
  isplitl [HW]; · iexact HW
  rw [e]
  iintro ⟨H0, Hx, Hn, ⟨%W', HW'⟩⟩
  isplitl [Hx Hn Hg Hs Hh]
  · isplitl [Hx Hn]
    · iexists _, _
      isplitr; swap
      · isplitl [Hx]; · iexact Hx
        iexact Hn
      ipureintro
      exact ⟨fun _ => hx, hk.2.step m (by omega) (base_coords t (by omega)) (by rw [if_neg (by omega), if_pos ht])⟩
    isplitl [Hg]; · iexact Hg
    isplitl [Hs]; · iexact Hs
    iexact Hh
  isplitl [HW']
  · iexists W'; isplitr; · ipureintro; exact fun _ _ => Or.inl trivial
    iexact HW'
  isplitl [H0]; · iexact H0
  iexact H1

/-- The third point: the stride-4 point. -/
theorem sound_C (c : Dev nD) (t : Fin cfg0.N) (ht : t.val = 2) :
    bodyPre m c t ⊢ wp frame (wpE (defs₀ (F := F)) Variants.none c none) Set.univ (bodyAt0 t) (fun _ => bodyPost m c t) := by
  obtain ⟨k1, k2, k3, k4⟩ := conds t
  have h1 : ¬ cond1 (grid0.coords t) = 1#1 := fun h => by have := k1.mp h; omega
  have h2 : k0_cond2 (grid0.coords t) = 1#1 := k2.mpr (by omega)
  have h3 : ¬ k0_cond3 (grid0.coords t) = 1#1 := fun h => by have := (k3 (by omega)).mp h; omega
  have h4 : ¬ k0_cond4 (grid0.coords t) = 1#1 := fun h => by have := k4.mp h; omega
  unfold bodyPre bodyPost
  obtain ⟨hid, hfl⟩ := idle_lt t (by omega)
  rw [outPost_idle m c t hid hfl, after0_0, iblk_eq]
  simp only [before0_0]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv scr
  iintro ⟨⟨⟨%fx, %fn, %hk, Hx, Hn⟩, Hg, Hs, Hh⟩, ⟨%W, -, HW⟩, ⟨%d0, H0⟩, H1⟩
  have hx := hk.1 (by omega)
  have e := runC_eq (arg2 := st0_0 t) (arg3 := st0_1 t) (harg2 := hstage0_0 ((cfg0.slots t 0).cast nbuf0_0)) (harg3 := hstage0_1 ((cfg0.slots t 1).cast nbuf0_1))
    (h1 := h1) (h2 := h2) (h3 := h3) (h4 := h4) (X2 := win m c) (fn := fn) hx
  iapply ((runC c (grid0.coords t) h1 h2 h3 h4 (st0_0 t) (hstage0_0 ((cfg0.slots t 0).cast nbuf0_0)) (st0_1 t) (hstage0_1 ((cfg0.slots t 1).cast nbuf0_1))
    (win m c) fx fn).2 W _)
  isplitl [H0]; · iexact H0
  isplitl [Hx]; · iexact Hx
  isplitl [Hn]; · iexact Hn
  isplitl [HW]; · iexact HW
  rw [e]
  iintro ⟨H0, Hx, Hn, ⟨%W', HW'⟩⟩
  isplitl [Hx Hn Hg Hs Hh]
  · isplitl [Hx Hn]
    · iexists _, _
      isplitr; swap
      · isplitl [Hx]; · iexact Hx
        iexact Hn
      ipureintro
      exact ⟨fun _ => hx, hk.2.step m (by omega) (base_coords t (by omega)) (by rw [if_neg (by omega), if_neg (by omega)])⟩
    isplitl [Hg]; · iexact Hg
    isplitl [Hs]; · iexact Hs
    iexact Hh
  isplitl [HW']
  · iexists W'; isplitr; · ipureintro; exact fun _ _ => Or.inl trivial
    iexact HW'
  isplitl [H0]; · iexact H0
  iexact H1

/-- A point that finishes a block of the result. -/
theorem sound_D (c : Dev nD) (t : Fin cfg0.N) (b : Fin 4) (ht : t.val = b.val + 3) :
    bodyPre m c t ⊢ wp frame (wpE (defs₀ (F := F)) Variants.none c none) Set.univ (bodyAt0 t) (fun _ => bodyPost m c t) := by
  obtain ⟨k1, k2, k3, k4⟩ := conds t
  have hco := coords_D t b ht
  rw [hco] at k1 k2 k3 k4
  have h1 : ¬ cond1 (iD b) = 1#1 := fun h => by have := k1.mp h; omega
  have h2 : k0_cond2 (iD b) = 1#1 := k2.mpr (by omega)
  have h3 : k0_cond3 (iD b) = 1#1 := (k3 (by omega)).mpr (by omega)
  have h4 : k0_cond4 (iD b) = 1#1 := k4.mpr (by omega)
  have hb : (⟨min (t.val - 3) 3, by omega⟩ : Fin 4) = b := Fin.ext (by show min (t.val - 3) 3 = b.val; omega)
  unfold bodyPre bodyPost
  rw [outPost_live m c t (live_ge t (by omega)), after0_0, after0_1, iblk_eq]
  simp only [before0_0]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv scr
  unfold bodyAt0
  rw [hco]
  iintro ⟨⟨⟨%fx, %fn, %hk, Hx, Hn⟩, Hg, Hs, Hh⟩, ⟨%W, -, HW⟩, ⟨%d0, H0⟩, ⟨%d1, H1⟩⟩
  have hx := hk.1 (by omega)
  have e := runD_eq (arg2 := st0_0 t) (arg3 := st0_1 t) (harg2 := hstage0_0 ((cfg0.slots t 0).cast nbuf0_0)) (harg3 := hstage0_1 ((cfg0.slots t 1).cast nbuf0_1))
    (h1 := h1) (h2 := h2) (h3 := h3) (h4 := h4) (X2 := win m c) (fn := fn) hx (hk.2.full m (by omega) b)
  iapply ((runD c b h1 h2 h3 h4 (st0_0 t) (hstage0_0 ((cfg0.slots t 0).cast nbuf0_0)) (st0_1 t) (hstage0_1 ((cfg0.slots t 1).cast nbuf0_1))
    (win m c) fx fn).2 W _)
  isplitl [H0]; · iexact H0
  isplitl [H1]; · iexists _; iexact H1
  isplitl [Hx]; · iexact Hx
  isplitl [Hn]; · iexact Hn
  isplitl [HW]; · iexact HW
  rw [e]
  iintro ⟨H0, ⟨%f1, H1⟩, Hx, Hn, ⟨%W', HW'⟩⟩
  isplitl [Hx Hn Hg Hs Hh]
  · isplitl [Hx Hn]
    · iexists _, _
      isplitr; swap
      · isplitl [Hx]; · iexact Hx
        iexact Hn
      ipureintro
      exact ⟨fun _ => hx, hk.2.keep m (by omega) b⟩
    isplitl [Hg]; · iexact Hg
    isplitl [Hs]; · iexact Hs
    iexact Hh
  isplitl [HW']
  · iexists W'; isplitr; · ipureintro; exact fun _ _ => Or.inl trivial
    iexact HW'
  isplitl [H0]; · iexact H0
  unfold owns
  iexists _; isplitr
  swap; · iexact H1
  ipureintro
  rw [hb]
  exact read_outPieces _ _ _ _ b

theorem sound_body (c : Dev nD) (t : Fin cfg0.N) :
    bodyPre m c t ⊢ wp frame (wpE (defs₀ (F := F)) Variants.none c none) Set.univ (bodyAt0 t) (fun _ => bodyPost m c t) := by
  have hN : t.val < 7 := t.isLt.trans_eq N_0
  by_cases h0 : t.val = 0
  · exact sound_A m c t h0
  by_cases h1 : t.val = 1
  · exact sound_B m c t h1
  by_cases h2 : t.val = 2
  · exact sound_C m c t h2
  exact sound_D m c t ⟨t.val - 3, by omega⟩ (by show t.val = t.val - 3 + 3; omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.ΦD osem0 spec0 H0 (V m) c ⊢ (dats m 0 c).Φ 0 := by
  rw [PhiD0_eq, show (dats m 0 c).Φ 0 = inv m c 0 from rfl]
  unfold inv scr
  iintro ⟨⟨⟨%fx, Hx⟩, ⟨%fn, Hn⟩⟩, Hg, Hs, Hh⟩
  isplitl [Hx Hn]
  · iexists fx, fn
    isplitr
    · ipureintro; exact ⟨fun h => absurd rfl h, Known.zero m c fn⟩
    isplitl [Hx]; · iexact Hx
    iexact Hn
  isplitl [Hg]; · iexact Hg
  isplitl [Hs]; · iexact Hs
  iexact Hh

theorem hout (c : Dev nD) : (dats m 0 c).Φ (Fin.last cfg0.N) ⊢ Pipeline.ΦD osem0 spec0 H0 (V m) c := by
  rw [PhiD0_eq, show (dats m 0 c).Φ (Fin.last cfg0.N) = inv m c cfg0.N from rfl]
  unfold inv scr
  iintro ⟨⟨%fx, %fn, -, Hx, Hn⟩, Hg, Hs, Hh⟩
  isplitl [Hx Hn]
  · isplitl [Hx]; · iexists fx; iexact Hx
    iexists fn; iexact Hn
  isplitl [Hg]; · iexact Hg
  isplitl [Hs]; · iexact Hs
  iexact Hh

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The arguments as launched, of the frame run's post. -/
theorem args_of {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The run, of which the frames are read. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_of m h.1, h.2⟩) (run_main m ρ)

end Cert.KernelIdeal.Hand

end
-- ==== Proof.Math.lean ====
/-
  The mathematics of the result, over the extended reals: attention in one window of rows, with the scale on the scores
  or on the query weights, and the mixing of the windows that share a row.
-/
module

public import Idealize.ShloMosaic.PureOps.Ideal
public import Idealize.ShloMosaic.Lib.IdealHost

@[expose] public section

noncomputable section

namespace Cert.Attn

open Idealize.ShloMosaic
open scoped BigOperators

/-- A product of two matrices at `(r, d)`. -/
def pr {n k p : ℕ} (Y : Fin n → Fin k → EReal) (W : Fin k → Fin p → EReal) (r : Fin n) (d : Fin p) : EReal := ∑ c, Y r c * W c d

/-- The unscaled score of row `r` against row `j`. -/
def dotp {n k : ℕ} (Q K : Fin n → Fin k → EReal) (r j : Fin n) : EReal := ∑ d, Q r d * K j d

/-- The denominator of row `r`, from the exponentials. -/
def den {n : ℕ} (E : Fin n → Fin n → EReal) (r : Fin n) : EReal := ∑ j, E r j

/-- Exponentials of the scaled scores: the scale multiplies the scores. -/
def expS {n k : ℕ} (Y : Fin n → Fin k → EReal) (Wq Wk : Fin k → Fin k → EReal) (s : EReal) (r j : Fin n) : EReal :=
  Ideal.exp (dotp (pr Y Wq) (pr Y Wk) r j * s)

/-- Exponentials of the scaled scores: the scale is in the query weights. -/
def expW {n k : ℕ} (Y : Fin n → Fin k → EReal) (Wq Wk : Fin k → Fin k → EReal) (s : EReal) (r j : Fin n) : EReal :=
  Ideal.exp (dotp (pr Y fun c d => Wq c d * s) (pr Y Wk) r j)

/-- A sum of reals, embedded, is the sum of the embeddings. -/
theorem coe_sum' {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

theorem pr_coe {n k p : ℕ} (Y : Fin n → Fin k → ℝ) (W : Fin k → Fin p → ℝ) (r : Fin n) (d : Fin p) :
    pr (fun r c => (Y r c : EReal)) (fun c d => (W c d : EReal)) r d = ((∑ c, Y r c * W c d : ℝ) : EReal) := by
  unfold pr
  rw [coe_sum']
  exact Finset.sum_congr rfl fun c _ => (EReal.coe_mul _ _).symm

theorem dotp_coe {n k : ℕ} (Q K : Fin n → Fin k → ℝ) (r j : Fin n) :
    dotp (fun r c => (Q r c : EReal)) (fun c d => (K c d : EReal)) r j = ((∑ c, Q r c * K j c : ℝ) : EReal) := by
  unfold dotp
  rw [coe_sum']
  exact Finset.sum_congr rfl fun c _ => (EReal.coe_mul _ _).symm

/-- With finite rows and weights, the two placements of a finite scale give one exponential, a positive real. -/
theorem expS_real {n k : ℕ} (Y : Fin n → Fin k → EReal) (Wq Wk : Fin k → Fin k → EReal) (s : EReal)
    (hY : ∃ y : Fin n → Fin k → ℝ, Y = fun r c => (y r c : EReal)) (hq : ∃ y : Fin k → Fin k → ℝ, Wq = fun r c => (y r c : EReal))
    (hk : ∃ y : Fin k → Fin k → ℝ, Wk = fun r c => (y r c : EReal)) (hs : ∃ y : ℝ, s = (y : EReal)) :
    expW Y Wq Wk s = expS Y Wq Wk s ∧ ∃ e : Fin n → Fin n → ℝ, (∀ r j, 0 < e r j) ∧ expS Y Wq Wk s = fun r j => (e r j : EReal) := by
  obtain ⟨y, rfl⟩ := hY
  obtain ⟨q, rfl⟩ := hq
  obtain ⟨w, rfl⟩ := hk
  obtain ⟨t, rfl⟩ := hs
  have eS : expS (fun r c => (y r c : EReal)) (fun r c => (q r c : EReal)) (fun r c => (w r c : EReal)) (t : EReal)
      = fun r j => ((Real.exp ((∑ d, (∑ c, y r c * q c d) * (∑ c, y j c * w c d)) * t) : ℝ) : EReal) := by
    funext r j
    unfold expS
    rw [show pr (fun r c => (y r c : EReal)) (fun c d => (q c d : EReal)) = fun r d => ((∑ c, y r c * q c d : ℝ) : EReal) from
        funext fun r => funext fun d => pr_coe y q r d,
      show pr (fun r c => (y r c : EReal)) (fun c d => (w c d : EReal)) = fun r d => ((∑ c, y r c * w c d : ℝ) : EReal) from
        funext fun r => funext fun d => pr_coe y w r d, dotp_coe, ← EReal.coe_mul, Ideal.exp_coe]
  refine ⟨?_, _, fun r j => Real.exp_pos _, eS⟩
  rw [eS]
  funext r j
  unfold expW
  rw [show (fun c d => (q c d : EReal) * (t : EReal)) = fun c d => ((q c d * t : ℝ) : EReal) from
        funext fun c => funext fun d => (EReal.coe_mul _ _).symm,
    show pr (fun r c => (y r c : EReal)) (fun c d => ((q c d * t : ℝ) : EReal)) = fun r d => ((∑ c, y r c * (q c d * t) : ℝ) : EReal) from
        funext fun r => funext fun d => pr_coe y _ r d,
    show pr (fun r c => (y r c : EReal)) (fun c d => (w c d : EReal)) = fun r d => ((∑ c, y r c * w c d : ℝ) : EReal) from
        funext fun r => funext fun d => pr_coe y w r d, dotp_coe, Ideal.exp_coe]
  refine congrArg (fun z : ℝ => ((Real.exp z : ℝ) : EReal)) ?_
  rw [Finset.sum_mul]
  refine Finset.sum_congr rfl fun d _ => ?_
  rw [show (∑ c, y r c * (q c d * t)) = (∑ c, y r c * q c d) * t by
    rw [Finset.sum_mul]; exact Finset.sum_congr rfl fun c _ => by ring]
  ring

/-- A denominator of positive reals is a positive real. -/
theorem den_real {n : ℕ} (hn : 0 < n) (e : Fin n → Fin n → ℝ) (he : ∀ r j, 0 < e r j) (r : Fin n) :
    den (fun r j => (e r j : EReal)) r = ((∑ j, e r j : ℝ) : EReal) ∧ 0 < ∑ j, e r j := by
  refine ⟨(coe_sum' _ _).symm, Finset.sum_pos (fun j _ => he r j) ⟨⟨0, hn⟩, Finset.mem_univ _⟩⟩

/-- Dividing by a positive real distributes over a sum of any extended reals. -/
theorem div_sum {ι : Type} (S : Finset ι) (f : ι → EReal) (D : ℝ) (hD : 0 < D) :
    ∑ i ∈ S, f i * ((1 / D : ℝ) : EReal) = (∑ i ∈ S, f i) * ((1 / D : ℝ) : EReal) := by
  classical
  have h0 : (0 : EReal) ≤ ((1 / D : ℝ) : EReal) := EReal.coe_nonneg.mpr (by positivity)
  induction S using Finset.induction_on with
  | empty => simp
  | insert a S h ih =>
    rw [Finset.sum_insert h, Finset.sum_insert h, ih, EReal.right_distrib_of_nonneg_of_ne_top h0 (EReal.coe_ne_top _)]

/-- THE MIXING: normalised outputs weighted by their share of the denominators sum to the sum of the numerators over the
    sum of the denominators, the denominators being positive reals. -/
theorem mix {ι : Type} (S : Finset ι) (hS : S.Nonempty) (num dn : ι → EReal) (d : ι → ℝ) (hd : ∀ i, 0 < d i) (e : ∀ i, dn i = (d i : EReal)) :
    ∑ i ∈ S, Ideal.div (num i) (dn i) * Ideal.div (dn i) (∑ j ∈ S, dn j) = Ideal.div (∑ i ∈ S, num i) (∑ i ∈ S, dn i) := by
  have hD : 0 < ∑ j ∈ S, d j := Finset.sum_pos (fun i _ => hd i) hS
  have eD : ∑ j ∈ S, dn j = ((∑ j ∈ S, d j : ℝ) : EReal) := by
    rw [coe_sum']; exact Finset.sum_congr rfl fun i _ => e i
  rw [eD, Ideal.div_coe hD.ne', ← div_sum _ _ _ hD]
  refine Finset.sum_congr rfl fun i _ => ?_
  rw [e i, Ideal.div_coe (hd i).ne', Ideal.div_coe hD.ne', mul_assoc, ← EReal.coe_mul, ← EReal.coe_mul]
  refine congrArg (fun z : ℝ => num i * (z : EReal)) ?_
  have := (hd i).ne'
  field_simp

/-- The row of the input that place `j` of the seven windows reads: all rows, then every other, then every fourth. -/
def rowOf (j : ℕ) : ℕ := if j < 8192 then j else if j < 12288 then 2 * (j - 8192) else 4 * (j - 12288)

theorem rowOf_lt (j : Fin 14336) : rowOf j.val < 8192 := by
  have := j.isLt
  unfold rowOf; split_ifs <;> omega

/-- The places that read row `n`: one, and one more if `n` is even, and one more if 4 divides it. -/
theorem sum_rowOf (f : Fin 14336 → EReal) (n : Fin 8192) :
    ∑ j ∈ Finset.univ.filter (fun j : Fin 14336 => rowOf j.val = n.val), f j
      = f ⟨n.val, by omega⟩ + (if n.val % 2 = 0 then f ⟨8192 + n.val / 2, by omega⟩ else 0)
        + (if n.val % 4 = 0 then f ⟨12288 + n.val / 4, by omega⟩ else 0) := by
  have hn := n.isLt
  by_cases h2 : n.val % 2 = 0
  · by_cases h4 : n.val % 4 = 0
    · rw [show Finset.univ.filter (fun j : Fin 14336 => rowOf j.val = n.val)
          = {⟨n.val, by omega⟩, ⟨8192 + n.val / 2, by omega⟩, ⟨12288 + n.val / 4, by omega⟩} from by
        ext j
        have := j.isLt
        simp only [Finset.mem_filter, Finset.mem_univ, true_and, Finset.mem_insert, Finset.mem_singleton, Fin.ext_iff]
        unfold rowOf
        split_ifs <;> omega,
        Finset.sum_insert (by simp only [Finset.mem_insert, Finset.mem_singleton, Fin.ext_iff]; omega),
        Finset.sum_insert (by simp only [Finset.mem_singleton, Fin.ext_iff]; omega), Finset.sum_singleton, if_pos h2, if_pos h4, add_assoc]
    · rw [show Finset.univ.filter (fun j : Fin 14336 => rowOf j.val = n.val)
          = {⟨n.val, by omega⟩, ⟨8192 + n.val / 2, by omega⟩} from by
        ext j
        have := j.isLt
        simp only [Finset.mem_filter, Finset.mem_univ, true_and, Finset.mem_insert, Finset.mem_singleton, Fin.ext_iff]
        unfold rowOf
        split_ifs <;> omega,
        Finset.sum_insert (by simp only [Finset.mem_singleton, Fin.ext_iff]; omega), Finset.sum_singleton, if_pos h2, if_neg h4, add_zero]
  · have h4 : ¬ n.val % 4 = 0 := by omega
    rw [show Finset.univ.filter (fun j : Fin 14336 => rowOf j.val = n.val) = {⟨n.val, by omega⟩} from by
        ext j
        have := j.isLt
        simp only [Finset.mem_filter, Finset.mem_univ, true_and, Finset.mem_singleton, Fin.ext_iff]
        unfold rowOf
        split_ifs <;> omega,
      Finset.sum_singleton, if_neg h2, if_neg h4, add_zero, add_zero]

end Cert.Attn

end
-- ==== Proof.KernelValue.lean ====
/-
  The kernel's table and result over the extended reals: a window's block of the table holds the window's attention,
  unnormalised, beside its denominators; a row of the result is the sum of the rows of the windows that share it, divided.
-/
module

public import proofs.«01_k».proof.Proof.Table
public import proofs.«01_k».proof.Proof.Math
public import Idealize.ShloMosaic.Lib.MatmulPlain
public import Idealize.ShloMosaic.Lib.ValueLayout
public import Idealize.ShloMosaic.Lib.IdealHost

@[expose] public section

noncomputable section

namespace Cert.KernelIdeal.Hand

open Cert.KernelIdeal Cert.KernelIdeal.Gen Cert.Attn
open Idealize.ShloMosaic Idealize.ShloMosaic.TcCoe Idealize.ShloMosaic.Tactic Idealize.ShloMosaic.ValueIdx
open scoped BigOperators

/-- A matrix as a function of its two coordinates. -/
def ar {n k : ℕ} (x : (⟨2, ![n, k]⟩ : Shape).Idx → EReal) (r : Fin n) (c : Fin k) : EReal := x (ix2 r c)

/-- The 768 columns from `o` of the joined weights. -/
def wc (w : Vec Ideal S768x2304 .bf16) (o : ℕ) (ho : o + 768 ≤ 2304) (c d : Fin 768) : EReal := w (ix2 c ⟨o + d.val, by omega⟩)

/-! ## Products -/

theorem mm_plain {M K N : ℕ} {φ₁ φ₂ : FTy} (D : DotDims ⟨2, ![M, K]⟩ ⟨2, ![K, N]⟩ ⟨2, ![M, N]⟩) (hD : D = DotDims.plain M K N)
    (lhs : FVec Ideal ⟨2, ![M, K]⟩ φ₁) (rhs : FVec Ideal ⟨2, ![K, N]⟩ φ₂) (r : Fin M) (c : Fin N) :
    matmul D none lhs rhs (constant ⟨2, ![M, N]⟩ .f32 0x00000000#32) (ix2 r c) = pr (ar lhs) (ar rhs) r c := by
  subst hD
  refine (Ideal.matmul_plain_apply none lhs rhs _ r c).trans ?_
  rw [constant_apply, Ideal.ofBits_zero_f32, zero_add]
  rfl

theorem mm_trans {M K N : ℕ} {φ₁ φ₂ : FTy} (D : DotDims ⟨2, ![M, K]⟩ ⟨2, ![N, K]⟩ ⟨2, ![M, N]⟩) (hD : D = DotDims.transposedRhs M K N)
    (lhs : FVec Ideal ⟨2, ![M, K]⟩ φ₁) (rhs : FVec Ideal ⟨2, ![N, K]⟩ φ₂) (r : Fin M) (c : Fin N) :
    matmul D none lhs rhs (constant ⟨2, ![M, N]⟩ .f32 0x00000000#32) (ix2 r c) = ∑ k, ar lhs r k * ar rhs c k := by
  subst hD
  refine (Ideal.matmul_transposedRhs_apply none lhs rhs _ r c).trans ?_
  rw [constant_apply, Ideal.ofBits_zero_f32, zero_add]
  rfl

/-- A product of the window's rows with 768 columns of the joined weights. -/
theorem proj_apply (xb : FVec Ideal S2048x768 .bf16) (w : Vec Ideal S768x2304 .bf16) (o : ℕ) (ho : o + 768 ≤ 2304)
    (h : S768x2304.Slices ![0, o] S768x768) (r : Fin 2048) (d : Fin 768) :
    truncf .bf16 (matmul dot_S2048x768_S768x768_S2048x768_1_0_0_1_n_n none xb
      (extractStridedSlice S768x768 ![0, o] (k0_pay8 w) h) (constant S2048x768 .f32 0x00000000#32)) bitsLt_bf16_f32 (ix2 r d)
      = pr (ar xb) (wc w o ho) r d := by
  rw [truncf_apply]
  refine (mm_plain (M := 2048) (K := 768) (N := 768) _ rfl _ _ r d).trans ?_
  refine Finset.sum_congr rfl fun c _ => congrArg (ar xb r c * ·) ?_
  refine (slice2_axis1_apply o (k0_pay8 w) h c d ⟨o + d.val, by omega⟩ rfl).trans ?_
  unfold k0_pay8
  exact congrFun (shapeCast_self _ _) _

theorem pay9_apply (xb : FVec Ideal S2048x768 .bf16) (w : Vec Ideal S768x2304 .bf16) (r : Fin 2048) (d : Fin 768) :
    k0_pay9 xb w (ix2 r d) = pr (ar xb) (wc w 0 (by omega)) r d := proj_apply xb w 0 (by omega) _ r d
theorem pay10_apply (xb : FVec Ideal S2048x768 .bf16) (w : Vec Ideal S768x2304 .bf16) (r : Fin 2048) (d : Fin 768) :
    k0_pay10 xb w (ix2 r d) = pr (ar xb) (wc w 768 (by omega)) r d := proj_apply xb w 768 (by omega) _ r d
theorem pay11_apply (xb : FVec Ideal S2048x768 .bf16) (w : Vec Ideal S768x2304 .bf16) (r : Fin 2048) (d : Fin 768) :
    k0_pay11 xb w (ix2 r d) = pr (ar xb) (wc w 1536 (by omega)) r d := proj_apply xb w 1536 (by omega) _ r d

/-- The exponentials of 512 rows' scores. -/
theorem exp_apply (Q K : FVec Ideal S2048x768 .bf16) (o : ℕ) (ho : o + 512 ≤ 2048) (h : S2048x768.Slices ![o, 0] S512x768) (i : Fin 512) (j : Fin 2048) :
    truncf .bf16 (exp (matmul dot_S512x768_S2048x768_S512x2048_1_1_0_0_n_n none (extractStridedSlice S512x768 ![o, 0] Q h) K
      (constant S512x2048 .f32 0x00000000#32))) bitsLt_bf16_f32 (ix2 i j)
      = Ideal.exp (dotp (ar Q) (ar K) ⟨o + i.val, by omega⟩ j) := by
  rw [truncf_apply]
  show Ideal.exp (matmul (F := Ideal) _ none _ K _ (ix2 i j)) = _
  refine congrArg Ideal.exp ?_
  refine (mm_trans (M := 512) (K := 768) (N := 2048) _ rfl _ _ i j).trans ?_
  exact Finset.sum_congr rfl fun c _ => congrArg (· * ar K j c) (slice2_axis0_apply o Q h i c ⟨o + i.val, by omega⟩ rfl)

/-- 512 rows' exponentials times the values. -/
theorem num_apply (E : FVec Ideal S512x2048 .bf16) (V : FVec Ideal S2048x768 .bf16) (h : S512x768.ShapeCasts S512x768) (i : Fin 512) (k : Fin 768) :
    shapeCast S512x768 (truncf .bf16 (matmul dot_S512x2048_S2048x768_S512x768_1_0_0_1_n_n none E V (constant S512x768 .f32 0x00000000#32)) bitsLt_bf16_f32) h (ix2 i k)
      = pr (ar E) (ar V) i k := by
  rw [shapeCast_self, truncf_apply]
  exact mm_plain (M := 512) (K := 2048) (N := 768) _ rfl _ _ i k

/-- 512 rows' exponentials summed. -/
theorem den_apply (E : FVec Ideal S512x2048 .bf16) (h : S512x128.ShapeCasts S512x128) (i : Fin 512) (k : Fin 128) :
    shapeCast S512x128 (truncf .bf16 (matmul dot_S512x2048_S2048x128_S512x128_1_0_0_1_n_n none E (k0_pay12 (F := Ideal)) (constant S512x128 .f32 0x00000000#32)) bitsLt_bf16_f32) h (ix2 i k)
      = ∑ j, ar E i j := by
  rw [shapeCast_self, truncf_apply]
  refine (mm_plain (M := 512) (K := 2048) (N := 128) _ rfl _ _ i k).trans ?_
  refine Finset.sum_congr rfl fun j _ => ?_
  rw [show ar (k0_pay12 (F := Ideal)) j k = 1 from Ideal.ofBits_one_bf16, mul_one]

/-- The exponentials of a window, from its rows and the joined weights. -/
def expK (xb : FVec Ideal S2048x768 .bf16) (w : Vec Ideal S768x2304 .bf16) (r j : Fin 2048) : EReal :=
  Ideal.exp (dotp (pr (ar xb) (wc w 0 (by omega))) (pr (ar xb) (wc w 768 (by omega))) r j)

theorem ar_pay9 (xb : FVec Ideal S2048x768 .bf16) (w : Vec Ideal S768x2304 .bf16) : ar (k0_pay9 xb w) = pr (ar xb) (wc w 0 (by omega)) :=
  funext fun r => funext fun d => pay9_apply xb w r d
theorem ar_pay10 (xb : FVec Ideal S2048x768 .bf16) (w : Vec Ideal S768x2304 .bf16) : ar (k0_pay10 xb w) = pr (ar xb) (wc w 768 (by omega)) :=
  funext fun r => funext fun d => pay10_apply xb w r d
theorem ar_pay11 (xb : FVec Ideal S2048x768 .bf16) (w : Vec Ideal S768x2304 .bf16) : ar (k0_pay11 xb w) = pr (ar xb) (wc w 1536 (by omega)) :=
  funext fun r => funext fun d => pay11_apply xb w r d

/-- The exponentials of a quarter of a window. -/
def expQ (xb : FVec Ideal S2048x768 .bf16) (w : Vec Ideal S768x2304 .bf16) (q : Fin 4) : FVec Ideal S512x2048 .bf16 :=
  if q.val = 0 then k0_pay13 xb w
  else if q.val = 1 then k0_pay18 (k0_pay9 xb w) (k0_pay10 xb w)
  else if q.val = 2 then k0_pay21 (k0_pay9 xb w) (k0_pay10 xb w)
  else k0_pay1 (k0_pay9 xb w) (k0_pay10 xb w)

theorem expQ_apply (xb : FVec Ideal S2048x768 .bf16) (w : Vec Ideal S768x2304 .bf16) (q : Fin 4) (i : Fin 512) (j : Fin 2048) :
    ar (expQ xb w q) i j = expK xb w ⟨512 * q.val + i.val, by omega⟩ j := by
  unfold expK
  rw [← ar_pay9, ← ar_pay10]
  fin_cases q
  · exact exp_apply (k0_pay9 xb w) (k0_pay10 xb w) 0 (by omega) _ i j
  · exact exp_apply (k0_pay9 xb w) (k0_pay10 xb w) 512 (by omega) _ i j
  · exact exp_apply (k0_pay9 xb w) (k0_pay10 xb w) 1024 (by omega) _ i j
  · exact exp_apply (k0_pay9 xb w) (k0_pay10 xb w) 1536 (by omega) _ i j

theorem numQ_apply (xb : FVec Ideal S2048x768 .bf16) (w : Vec Ideal S768x2304 .bf16) (q : Fin 4) (i : Fin 512) (k : Fin 768) :
    numQ xb w q (ix2 i k) = pr (ar (expQ xb w q)) (pr (ar xb) (wc w 1536 (by omega))) i k := by
  rw [← ar_pay11]
  fin_cases q
  · exact num_apply (k0_pay13 xb w) (k0_pay11 xb w) _ i k
  · exact num_apply (k0_pay18 (k0_pay9 xb w) (k0_pay10 xb w)) (k0_pay11 xb w) _ i k
  · exact num_apply (k0_pay21 (k0_pay9 xb w) (k0_pay10 xb w)) (k0_pay11 xb w) _ i k
  · exact num_apply (k0_pay1 (k0_pay9 xb w) (k0_pay10 xb w)) (k0_pay11 xb w) _ i k

theorem denQ_apply (xb : FVec Ideal S2048x768 .bf16) (w : Vec Ideal S768x2304 .bf16) (q : Fin 4) (i : Fin 512) (k : Fin 128) :
    denQ xb w q (ix2 i k) = ∑ j, ar (expQ xb w q) i j := by
  fin_cases q
  · exact den_apply (k0_pay13 xb w) _ i k
  · exact den_apply (k0_pay18 (k0_pay9 xb w) (k0_pay10 xb w)) _ i k
  · exact den_apply (k0_pay21 (k0_pay9 xb w) (k0_pay10 xb w)) _ i k
  · exact den_apply (k0_pay1 (k0_pay9 xb w) (k0_pay10 xb w)) _ i k

/-- A window's block of the table: numerators, then denominators. -/
theorem ndv_num (xb : FVec Ideal S2048x768 .bf16) (w : Vec Ideal S768x2304 .bf16) (r : Fin 2048) (k : Fin 896) (h : k.val < 768) :
    ndv xb w r k = pr (expK xb w) (pr (ar xb) (wc w 1536 (by omega))) r ⟨k.val, h⟩ := by
  unfold ndv
  rw [dif_pos h, numQ_apply]
  refine Finset.sum_congr rfl fun j _ => congrArg (· * _) ?_
  rw [expQ_apply]
  exact congrArg (fun z => expK xb w z j) (Fin.ext (Nat.div_add_mod _ _))

theorem ndv_den (xb : FVec Ideal S2048x768 .bf16) (w : Vec Ideal S768x2304 .bf16) (r : Fin 2048) (k : Fin 896) (h : ¬ k.val < 768) :
    ndv xb w r k = den (expK xb w) r := by
  unfold ndv
  rw [dif_neg h, denQ_apply]
  refine Finset.sum_congr rfl fun j _ => ?_
  rw [expQ_apply]
  exact congrArg (fun z => expK xb w z j) (Fin.ext (Nat.div_add_mod _ _))

/-! ## The windows' rows -/

theorem ar_xb2 (X : S8192x768.Idx → Elt Ideal .bf16) (t : Fin 2) (r : Fin 2048) (c : Fin 768) :
    ar (xb2 (F := Ideal) X t) r c = X (ix2 ⟨4096 * t.val + 2 * r.val, by omega⟩ c) := by
  unfold ar xb2 k0_pay7
  refine (slice2_axis1_apply 0 _ slices_S2048x1536_o0_0_S2048x768 r c ⟨c.val, by omega⟩ (Nat.zero_add _).symm).trans ?_
  refine (shapeCast_apply _ shapeCasts_S4096x768_S2048x1536 _ (ix2 ⟨2 * r.val, by omega⟩ c) ?_).trans rfl
  rw [Shape.rowMajor_val_two, Shape.rowMajor_val_two]
  show 2 * r.val * 768 + c.val = r.val * 1536 + c.val
  omega

theorem ar_xb4 (X : S8192x768.Idx → Elt Ideal .bf16) (r : Fin 2048) (c : Fin 768) :
    ar (xb4 (F := Ideal) X) r c = X (ix2 ⟨4 * r.val, by omega⟩ c) := by
  unfold ar xb4 k0_pay6
  refine (slice2_axis1_apply 0 _ slices_S2048x3072_o0_0_S2048x768 r c ⟨c.val, by omega⟩ (Nat.zero_add _).symm).trans ?_
  refine (shapeCast_apply _ shapeCasts_S8192x768_S2048x3072 _ (ix2 ⟨4 * r.val, by omega⟩ c) ?_).trans rfl
  rw [Shape.rowMajor_val_two, Shape.rowMajor_val_two]
  show 4 * r.val * 768 + c.val = r.val * 3072 + c.val
  omega

theorem ar_xb1 (X : S8192x768.Idx → Elt Ideal .bf16) (b : Fin 4) (r : Fin 2048) (c : Fin 768) :
    ar (xb1 (F := Ideal) X b) r c = X (ix2 ⟨2048 * b.val + r.val, by omega⟩ c) := rfl

/-! ## The mixing -/

/-- Four matrices side by side, read in the `g`-th. -/
theorem concat4 {α : Type} {n m : ℕ} (x : Fin 4 → ((⟨2, ![n, m]⟩ : Shape).Idx → α)) (p : ℕ) (hp : p = 4 * m)
    (h : Shape.Concatenates [⟨2, ![n, m]⟩, ⟨2, ![n, m]⟩, ⟨2, ![n, m]⟩, ⟨2, ![n, m]⟩] ⟨2, ![n, p]⟩ 1)
    (i : Fin n) (g : Fin 4) (k : Fin m) (z : Fin p) (hz : z.val = g.val * m + k.val) :
    concatenate ⟨2, ![n, p]⟩ 1 [⟨⟨2, ![n, m]⟩, x 0⟩, ⟨⟨2, ![n, m]⟩, x 1⟩, ⟨⟨2, ![n, m]⟩, x 2⟩, ⟨⟨2, ![n, m]⟩, x 3⟩] h (ix2 i z) = x g (ix2 i k) := by
  refine concatenate_apply_piece (t := ⟨2, ![n, p]⟩) 1 [⟨⟨2, ![n, m]⟩, x 0⟩, ⟨⟨2, ![n, m]⟩, x 1⟩, ⟨⟨2, ![n, m]⟩, x 2⟩, ⟨⟨2, ![n, m]⟩, x 3⟩] h (ix2 i z) g.val g.isLt ⟨2, ![n, m]⟩ (x g) ?_ rfl (g.val * m) ?_ (ix2 i k) ?_ ?_
  · fin_cases g <;> rfl
  · fin_cases g
    · simp
    · show (m + 0 : ℕ) = _; simp
    · show (m + (m + 0) : ℕ) = _; simp; omega
    · show (m + (m + (m + 0)) : ℕ) = _; simp; omega
  · intro b hb
    match b with
    | ⟨0, _⟩ => rfl
    | ⟨1, _⟩ => exact absurd rfl hb
  · exact hz.symm

/-- A row of the sum that the last stage divides: the stride-1 window's row, and the rows of the stride-2 and the stride-4
    windows that are the same row of the input. -/
def mixAt (A : FVec Ideal S1024x896 .bf16) (P : FVec Ideal S512x896 .bf16) (S : FVec Ideal S256x896 .bf16) (r : Fin 1024) (k : Fin 896) : EReal :=
  A (ix2 r k) + (if r.val % 2 = 0 then P (ix2 ⟨r.val / 2, by omega⟩ k) else 0) + (if r.val % 4 = 0 then S (ix2 ⟨r.val / 4, by omega⟩ k) else 0)

/-- The sums, four rows to a row. -/
def tot (A : FVec Ideal S1024x896 .bf16) (P : FVec Ideal S512x896 .bf16) (S : FVec Ideal S256x896 .bf16) : FVec Ideal S256x3584 .f32 :=
  addf (addf (extf .f32 (shapeCast S256x3584 A shapeCasts_S1024x896_S256x3584) bitsLt_bf16_f32)
    (concatenate S256x3584 1 [⟨S256x896, extractStridedSlice S256x896 ![0, 0] (extf .f32 (shapeCast S256x1792 P shapeCasts_S512x896_S256x1792) bitsLt_bf16_f32 : FVec Ideal S256x1792 .f32) slices_S256x1792_o0_0_S256x896⟩,
      ⟨S256x896, broadcast S256x896 (Scalar.ofBits .f32 0x00000000#32 : Ideal .f32)⟩,
      ⟨S256x896, extractStridedSlice S256x896 ![0, 896] (extf .f32 (shapeCast S256x1792 P shapeCasts_S512x896_S256x1792) bitsLt_bf16_f32 : FVec Ideal S256x1792 .f32) slices_S256x1792_o0_896_S256x896⟩,
      ⟨S256x896, broadcast S256x896 (Scalar.ofBits .f32 0x00000000#32 : Ideal .f32)⟩] concatenates_S256x896_S256x896_S256x896_S256x896_S256x3584_d1))
    (concatenate S256x3584 1 [⟨S256x896, extf .f32 S bitsLt_bf16_f32⟩,
      ⟨S256x896, broadcast S256x896 (Scalar.ofBits .f32 0x00000000#32 : Ideal .f32)⟩,
      ⟨S256x896, broadcast S256x896 (Scalar.ofBits .f32 0x00000000#32 : Ideal .f32)⟩,
      ⟨S256x896, broadcast S256x896 (Scalar.ofBits .f32 0x00000000#32 : Ideal .f32)⟩] concatenates_S256x896_S256x896_S256x896_S256x896_S256x3584_d1)

theorem zero_at (j : S256x896.Idx) : (broadcast S256x896 (Scalar.ofBits .f32 0x00000000#32 : Ideal .f32)) j = 0 := Ideal.ofBits_zero_f32

theorem tot_apply (A : FVec Ideal S1024x896 .bf16) (P : FVec Ideal S512x896 .bf16) (S : FVec Ideal S256x896 .bf16)
    (i : Fin 256) (g : Fin 4) (k : Fin 896) (z : Fin 3584) (hz : z.val = g.val * 896 + k.val) :
    tot A P S (ix2 i z) = mixAt A P S ⟨4 * i.val + g.val, by omega⟩ k := by
  unfold tot mixAt
  rw [addf_apply, addf_apply, extf_apply]
  refine congrArg₂ (· + ·) (congrArg₂ (· + ·) ?_ ?_) ?_
  · refine shapeCast_apply A shapeCasts_S1024x896_S256x3584 _ _ ?_
    rw [Shape.rowMajor_val_two, Shape.rowMajor_val_two]
    show (4 * i.val + g.val) * 896 + k.val = i.val * 3584 + z.val
    omega
  · refine (concat4 (n := 256) (m := 896) (p := 3584) ![_, _, _, _] rfl _ i g k z hz).trans ?_
    fin_cases g
    · rw [if_pos (by show (4 * i.val + 0) % 2 = 0; omega)]
      refine (slice2_axis1_apply 0 (extf .f32 (shapeCast S256x1792 P shapeCasts_S512x896_S256x1792) bitsLt_bf16_f32 : FVec Ideal S256x1792 .f32) slices_S256x1792_o0_0_S256x896 i k ⟨k.val, by omega⟩ (Nat.zero_add _).symm).trans ?_
      rw [extf_apply]
      refine shapeCast_apply P shapeCasts_S512x896_S256x1792 _ _ ?_
      rw [Shape.rowMajor_val_two, Shape.rowMajor_val_two]
      show ((4 * i.val + 0) / 2) * 896 + k.val = i.val * 1792 + k.val
      omega
    · rw [if_neg (by show ¬ (4 * i.val + 1) % 2 = 0; omega)]
      exact zero_at (ix2 i k)
    · rw [if_pos (by show (4 * i.val + 2) % 2 = 0; omega)]
      refine (slice2_axis1_apply 896 (extf .f32 (shapeCast S256x1792 P shapeCasts_S512x896_S256x1792) bitsLt_bf16_f32 : FVec Ideal S256x1792 .f32) slices_S256x1792_o0_896_S256x896 i k ⟨896 + k.val, by omega⟩ rfl).trans ?_
      rw [extf_apply]
      refine shapeCast_apply P shapeCasts_S512x896_S256x1792 _ _ ?_
      rw [Shape.rowMajor_val_two, Shape.rowMajor_val_two]
      show ((4 * i.val + 2) / 2) * 896 + k.val = i.val * 1792 + (896 + k.val)
      omega
    · rw [if_neg (by show ¬ (4 * i.val + 3) % 2 = 0; omega)]
      exact zero_at (ix2 i k)
  · refine (concat4 (n := 256) (m := 896) (p := 3584) ![_, _, _, _] rfl _ i g k z hz).trans ?_
    fin_cases g
    · rw [if_pos (by show (4 * i.val + 0) % 4 = 0; omega)]
      refine congrArg (fun y => S (ix2 y k)) (Fin.ext ?_)
      show i.val = (4 * i.val + 0) / 4
      omega
    · rw [if_neg (by show ¬ (4 * i.val + 1) % 4 = 0; omega)]
      exact zero_at (ix2 i k)
    · rw [if_neg (by show ¬ (4 * i.val + 2) % 4 = 0; omega)]
      exact zero_at (ix2 i k)
    · rw [if_neg (by show ¬ (4 * i.val + 3) % 4 = 0; omega)]
      exact zero_at (ix2 i k)

/-- 768 columns divided by one. -/
theorem quot_apply (T : FVec Ideal S256x3584 .f32) (o p : ℕ) (ho : o + 768 ≤ 3584) (hp : p < 3584) (h : S256x3584.Slices ![0, o] S256x768)
    (h' : S256x3584.Slices ![0, p] S256x1) (i : Fin 256) (k : Fin 768) :
    divf (extractStridedSlice S256x768 ![0, o] T h) (broadcastTo S256x768 (extractStridedSlice S256x1 ![0, p] T h') broadcasts_S256x1_S256x768) (ix2 i k)
      = Ideal.div (T (ix2 i ⟨o + k.val, by omega⟩)) (T (ix2 i ⟨p, hp⟩)) := by
  rw [divf_apply]
  refine congrArg₂ Ideal.div (slice2_axis1_apply o T h i k _ rfl) ?_
  refine (broadcastTo_apply _ broadcasts_S256x1_S256x768 (ix2 i k) (ix2 i (0 : Fin 1)) ?_).trans (slice2_axis1_apply p T h' i (0 : Fin 1) _ rfl)
  intro a
  match a with
  | ⟨0, _⟩ => rfl
  | ⟨1, _⟩ => rfl

/-- The four quotients side by side. -/
def quots (T : FVec Ideal S256x3584 .f32) : FVec Ideal S256x3072 .f32 :=
  concatenate S256x3072 1 [⟨S256x768, divf (extractStridedSlice S256x768 ![0, 0] T slices_S256x3584_o0_0_S256x768) (broadcastTo S256x768 (extractStridedSlice S256x1 ![0, 768] T slices_S256x3584_o0_768_S256x1) broadcasts_S256x1_S256x768)⟩,
    ⟨S256x768, divf (extractStridedSlice S256x768 ![0, 896] T slices_S256x3584_o0_896_S256x768) (broadcastTo S256x768 (extractStridedSlice S256x1 ![0, 1664] T slices_S256x3584_o0_1664_S256x1) broadcasts_S256x1_S256x768)⟩,
    ⟨S256x768, divf (extractStridedSlice S256x768 ![0, 1792] T slices_S256x3584_o0_1792_S256x768) (broadcastTo S256x768 (extractStridedSlice S256x1 ![0, 2560] T slices_S256x3584_o0_2560_S256x1) broadcasts_S256x1_S256x768)⟩,
    ⟨S256x768, divf (extractStridedSlice S256x768 ![0, 2688] T slices_S256x3584_o0_2688_S256x768) (broadcastTo S256x768 (extractStridedSlice S256x1 ![0, 3456] T slices_S256x3584_o0_3456_S256x1) broadcasts_S256x1_S256x768)⟩] concatenates_S256x768_S256x768_S256x768_S256x768_S256x3072_d1

theorem pay5_eq (A : FVec Ideal S1024x896 .bf16) (P : FVec Ideal S512x896 .bf16) (S : FVec Ideal S256x896 .bf16) :
    k0_pay5 (F := Ideal) A P S = shapeCast S1024x768 (quots (tot A P S)) shapeCasts_S256x3072_S1024x768 := rfl

/-- Half a block of the result: each row of sums divided by its denominator. -/
theorem pay5_apply (A : FVec Ideal S1024x896 .bf16) (P : FVec Ideal S512x896 .bf16) (S : FVec Ideal S256x896 .bf16) (r : Fin 1024) (k : Fin 768) :
    k0_pay5 (F := Ideal) A P S (ix2 r k) = Ideal.div (mixAt A P S r ⟨k.val, by omega⟩) (mixAt A P S r ⟨768, by omega⟩) := by
  have hr : (⟨4 * (r.val / 4) + r.val % 4, by omega⟩ : Fin 1024) = r := Fin.ext (Nat.div_add_mod _ _)
  have e (k' : Fin 896) (z : Fin 3584) (hz : z.val = (r.val % 4) * 896 + k'.val) :
      tot A P S (ix2 ⟨r.val / 4, by omega⟩ z) = mixAt A P S r k' :=
    (tot_apply A P S ⟨r.val / 4, by omega⟩ ⟨r.val % 4, by omega⟩ k' z hz).trans (congrArg (fun y => mixAt A P S y k') hr)
  rw [pay5_eq]
  refine (shapeCast_apply (quots (tot A P S)) shapeCasts_S256x3072_S1024x768 (ix2 r k) (ix2 ⟨r.val / 4, by omega⟩ ⟨(r.val % 4) * 768 + k.val, by omega⟩) ?_).trans ?_
  · rw [Shape.rowMajor_val_two, Shape.rowMajor_val_two]
    show (r.val / 4) * 3072 + ((r.val % 4) * 768 + k.val) = r.val * 768 + k.val
    omega
  refine (concat4 (n := 256) (m := 768) (p := 3072) ![_, _, _, _] rfl _ ⟨r.val / 4, by omega⟩ ⟨r.val % 4, by omega⟩ k _ rfl).trans ?_
  have h4 : r.val % 4 = 0 ∨ r.val % 4 = 1 ∨ r.val % 4 = 2 ∨ r.val % 4 = 3 := by omega
  rcases h4 with h | h | h | h
  · rw [show (⟨r.val % 4, by omega⟩ : Fin 4) = 0 from Fin.ext h]
    refine (quot_apply (tot A P S) 0 768 (by omega) (by omega) _ _ _ k).trans ?_
    rw [e ⟨k.val, by omega⟩ ⟨0 + k.val, by omega⟩ (by show 0 + k.val = (r.val % 4) * 896 + k.val; omega), e ⟨768, by omega⟩ ⟨768, by omega⟩ (by show 768 = (r.val % 4) * 896 + 768; omega)]
  · rw [show (⟨r.val % 4, by omega⟩ : Fin 4) = 1 from Fin.ext h]
    refine (quot_apply (tot A P S) 896 1664 (by omega) (by omega) _ _ _ k).trans ?_
    rw [e ⟨k.val, by omega⟩ ⟨896 + k.val, by omega⟩ (by show 896 + k.val = (r.val % 4) * 896 + k.val; omega), e ⟨768, by omega⟩ ⟨1664, by omega⟩ (by show 1664 = (r.val % 4) * 896 + 768; omega)]
  · rw [show (⟨r.val % 4, by omega⟩ : Fin 4) = 2 from Fin.ext h]
    refine (quot_apply (tot A P S) 1792 2560 (by omega) (by omega) _ _ _ k).trans ?_
    rw [e ⟨k.val, by omega⟩ ⟨1792 + k.val, by omega⟩ (by show 1792 + k.val = (r.val % 4) * 896 + k.val; omega), e ⟨768, by omega⟩ ⟨2560, by omega⟩ (by show 2560 = (r.val % 4) * 896 + 768; omega)]
  · rw [show (⟨r.val % 4, by omega⟩ : Fin 4) = 3 from Fin.ext h]
    refine (quot_apply (tot A P S) 2688 3456 (by omega) (by omega) _ _ _ k).trans ?_
    rw [e ⟨k.val, by omega⟩ ⟨2688 + k.val, by omega⟩ (by show 2688 + k.val = (r.val % 4) * 896 + k.val; omega), e ⟨768, by omega⟩ ⟨3456, by omega⟩ (by show 3456 = (r.val % 4) * 896 + 768; omega)]

/-- The two halves are one function. -/
theorem pay4_eq (A : FVec Ideal S1024x896 .bf16) (P : FVec Ideal S512x896 .bf16) (S : FVec Ideal S256x896 .bf16) :
    k0_pay4 (F := Ideal) A P S = k0_pay5 A P S := rfl

/-- Row `n` of the sums over the whole input: the row's place in the stride-1 window that holds it, and, where the row is
    even, in a stride-2 window, and, where it is a multiple of four, in the stride-4 window. -/
def sums (X : FVec Ideal S8192x768 .bf16) (w : FVec Ideal S768x2304 .bf16) (n : Fin 8192) (k : Fin 896) : EReal :=
  ndv (F := Ideal) (xb1 X ⟨n.val / 2048, by omega⟩) w ⟨n.val % 2048, by omega⟩ k
    + (if n.val % 2 = 0 then ndv (F := Ideal) (xb2 X ⟨n.val / 4096, by omega⟩) w ⟨n.val % 4096 / 2, by omega⟩ k else 0)
    + (if n.val % 4 = 0 then ndv (F := Ideal) (xb4 X) w ⟨n.val / 4, by omega⟩ k else 0)

theorem tab_one (X : FVec Ideal S8192x768 .bf16) (w : FVec Ideal S768x2304 .bf16) (b : Fin 4) (n r : Fin 8192) (k : Fin 896)
    (hb : n.val / 2048 = b.val) (hr : r.val = 6144 + n.val % 2048) :
    tab (F := Ideal) X w b r k = ndv (F := Ideal) (xb1 X ⟨n.val / 2048, by omega⟩) w ⟨n.val % 2048, by omega⟩ k := by
  unfold tab
  rw [if_neg (by omega), if_neg (by omega), if_neg (by omega)]
  exact congrArg₂ (fun b' r' => ndv (F := Ideal) (xb1 X b') w r' k) (Fin.ext hb.symm) (Fin.ext (by show r.val % 2048 = n.val % 2048; omega))

theorem tab_two (X : FVec Ideal S8192x768 .bf16) (w : FVec Ideal S768x2304 .bf16) (b : Fin 4) (n r : Fin 8192) (k : Fin 896)
    (hr : r.val = n.val / 2) :
    tab (F := Ideal) X w b r k = ndv (F := Ideal) (xb2 X ⟨n.val / 4096, by omega⟩) w ⟨n.val % 4096 / 2, by omega⟩ k := by
  unfold tab
  rw [show (⟨r.val % 2048, Nat.mod_lt _ (by omega)⟩ : Fin 2048) = ⟨n.val % 4096 / 2, by omega⟩ from Fin.ext (by show r.val % 2048 = n.val % 4096 / 2; omega)]
  by_cases h : r.val < 2048
  · rw [if_pos h, show (⟨n.val / 4096, by omega⟩ : Fin 2) = 0 from Fin.ext (by show n.val / 4096 = 0; omega)]
  · rw [if_neg h, if_pos (by omega), show (⟨n.val / 4096, by omega⟩ : Fin 2) = 1 from Fin.ext (by show n.val / 4096 = 1; omega)]

theorem tab_four (X : FVec Ideal S8192x768 .bf16) (w : FVec Ideal S768x2304 .bf16) (b : Fin 4) (n r : Fin 8192) (k : Fin 896)
    (hr : r.val = 4096 + n.val / 4) :
    tab (F := Ideal) X w b r k = ndv (F := Ideal) (xb4 X) w ⟨n.val / 4, by omega⟩ k := by
  unfold tab
  rw [show (⟨r.val % 2048, Nat.mod_lt _ (by omega)⟩ : Fin 2048) = ⟨n.val / 4, by omega⟩ from Fin.ext (by show r.val % 2048 = n.val / 4; omega)]
  rw [if_neg (by omega), if_neg (by omega), if_pos (by omega)]

/-- The sums of a half block are the sums of the rows of the input it stands for. -/
theorem mix_rows (X : FVec Ideal S8192x768 .bf16) (w : FVec Ideal S768x2304 .bf16) (b : Fin 4) (n : Fin 8192) (r : Fin 1024) (k : Fin 896)
    (o p q g : ℕ) (ho : o + 1024 ≤ 8192) (hp : p + 512 ≤ 8192) (hq : q + 256 ≤ 8192) (hg : g < 2) (eo : o = 6144 + 1024 * g)
    (ep : p = 1024 * b.val + 512 * g) (eq : q = 4096 + 512 * b.val + 256 * g) (hn : n.val = 2048 * b.val + 1024 * g + r.val) :
    mixAt (rows (tab (F := Ideal) X w b) o 1024 ho) (rows (tab (F := Ideal) X w b) p 512 hp) (rows (tab (F := Ideal) X w b) q 256 hq) r k = sums X w n k := by
  unfold mixAt sums
  refine congrArg₂ (· + ·) (congrArg₂ (· + ·) ?_ ?_) ?_
  · exact tab_one X w b n ⟨o + r.val, by omega⟩ k (by omega) (by show o + r.val = _; omega)
  · by_cases h : r.val % 2 = 0
    · rw [if_pos h, if_pos (by omega)]
      exact tab_two X w b n ⟨p + r.val / 2, by omega⟩ k (by show p + r.val / 2 = _; omega)
    · rw [if_neg h, if_neg (by omega)]
  · by_cases h : r.val % 4 = 0
    · rw [if_pos h, if_pos (by omega)]
      exact tab_four X w b n ⟨q + r.val / 4, by omega⟩ k (by show q + r.val / 4 = _; omega)
    · rw [if_neg h, if_neg (by omega)]

/-- A row of a block of the result: the row's sums, divided by the sum of the denominators. -/
theorem outv_apply (X : FVec Ideal S8192x768 .bf16) (w : FVec Ideal S768x2304 .bf16) (b : Fin 4) (r : Fin 2048) (k : Fin 768) (n : Fin 8192)
    (hn : n.val = 2048 * b.val + r.val) :
    outv (F := Ideal) X w b (ix2 r k) = Ideal.div (sums X w n ⟨k.val, by omega⟩) (sums X w n ⟨768, by omega⟩) := by
  unfold outv
  by_cases h : r.val < 1024
  · rw [dif_pos (show ((ix2 r k : S2048x768.Idx) 0).val < 1024 from h)]
    refine (pay5_apply _ _ _ ⟨r.val, h⟩ k).trans ?_
    rw [mix_rows X w b n ⟨r.val, h⟩ _ 6144 (1024 * b.val) (4096 + 512 * b.val) 0 _ _ _ (by omega) rfl rfl rfl (by show n.val = 2048 * b.val + 1024 * 0 + r.val; omega),
      mix_rows X w b n ⟨r.val, h⟩ _ 6144 (1024 * b.val) (4096 + 512 * b.val) 0 _ _ _ (by omega) rfl rfl rfl (by show n.val = 2048 * b.val + 1024 * 0 + r.val; omega)]
  · rw [dif_neg (show ¬ ((ix2 r k : S2048x768.Idx) 0).val < 1024 from h)]
    refine (pay5_apply _ _ _ ⟨r.val - 1024, by omega⟩ k).trans ?_
    rw [mix_rows X w b n ⟨r.val - 1024, by omega⟩ _ 7168 (1024 * b.val + 512) (4096 + 512 * b.val + 256) 1 _ _ _ (by omega) rfl rfl rfl (by show n.val = 2048 * b.val + 1024 * 1 + (r.val - 1024); omega),
      mix_rows X w b n ⟨r.val - 1024, by omega⟩ _ 7168 (1024 * b.val + 512) (4096 + 512 * b.val + 256) 1 _ _ _ (by omega) rfl rfl rfl (by show n.val = 2048 * b.val + 1024 * 1 + (r.val - 1024); omega)]

end Cert.KernelIdeal.Hand

end
-- ==== Proof.RefValue.lean ====
/-
  The reference's result over the extended reals. Each of its 14336 places is one row of one of seven windows of 2048 rows;
  a place's attention is divided by its own denominator, weighted by its denominator's share among the places that stand
  for the same row of the input, and added to that row.
-/
module

public import proofs.«01_k».proof.Proof.Gen.ReferenceIdeal.Run
public import proofs.«01_k».proof.Proof.Math
public import Idealize.ShloMosaic.Lib.Routing.OpsSet
public import Idealize.ShloMosaic.Lib.Pointwise.Reduce
public import Idealize.ShloMosaic.Lib.ValueLayout
public import Idealize.ShloMosaic.Lib.IdealHost

@[expose] public section

noncomputable section

namespace Cert.ReferenceIdeal.Hand

open Cert.ReferenceIdeal Cert.ReferenceIdeal.Gen Cert.Attn
open Idealize.ShloMosaic hiding ix1 ix2 ix3 ix0 sum_idx1 sum_idx2
open Idealize.ShloMosaic.TcCoe Idealize.ShloMosaic.ValueIdx
open scoped BigOperators

/-! ## The reference in stages -/

/-- The words `0 + a·i`. -/
def lin (n a : ℕ) (h : (⟨0, ![]⟩ : Shape).BroadcastsInDim ⟨1, ![n]⟩ ![]) : IVec ⟨1, ![n]⟩ 32 :=
  addi (broadcastInDim (⟨1, ![n]⟩ : Shape) ![] h (constantI S_ 32 0#32))
    (muli (broadcastInDim (⟨1, ![n]⟩ : Shape) ![] h (constantI S_ 32 (BitVec.ofNat 32 a))) (iotaInDim (⟨1, ![n]⟩ : Shape) 32 0))

/-- The row of the input each place stands for, before negative words are wrapped (none is). -/
def idx0 : IVec S14336 32 :=
  concatenate S14336 0 [⟨S8192, lin 8192 1 bcast_S_S8192⟩, ⟨S4096, lin 4096 2 bcast_S_S4096⟩, ⟨S2048, lin 2048 4 bcast_S_S2048⟩] concatenates_S8192_S4096_S2048_S14336_d0

/-- The same, wrapped, as a column. -/
def idx1 : IVec S14336x1 32 :=
  broadcastInDim S14336x1 ![0] bcast_S14336_S14336x1_0 (select (cmpi .slt idx0 (broadcastInDim S14336 ![] bcast_S_S14336 (constantI S_ 32 0#32)))
    (addi idx0 (broadcastInDim S14336 ![] bcast_S_S14336 (constantI S_ 32 8192#32))) idx0)

/-- The seven windows' rows. -/
def xs (x : FVec Ideal S1x8192x768 .f32) : FVec Ideal S7x2048x768 .f32 :=
  shapeCast _ (Host.gather gather_S8192x768_S14336x1_S14336x768_1_0_n_n_0_1_1768 (shapeCast _ x shapeCasts_S1x8192x768_S8192x768) idx1) shapeCasts_S14336x768_S7x2048x768

/-- A projection of them. -/
def pj (x : FVec Ideal S1x8192x768 .f32) (w : FVec Ideal S768x768 .f32) : FVec Ideal S7x2048x768 .f32 :=
  Host.dotGeneral dot_S7x2048x768_S768x768_S7x2048x768_2_0_01_1_n_n none (xs x) w

/-- The exponentials of the scores. -/
def ee (x : FVec Ideal S1x8192x768 .f32) (wq wk : FVec Ideal S768x768 .f32) : FVec Ideal S7x2048x2048 .f32 :=
  Host.exp (mulf (Host.dotGeneral dot_S7x2048x768_S7x2048x768_S7x2048x2048_2_2_1_1_0_0 none (pj x wq) (pj x wk))
    (broadcastInDim S7x2048x2048 ![] bcast_S_S7x2048x2048 (constant S_ .f32 0x3D13CD3A#32)))

/-- Their row sums. -/
def dd (x : FVec Ideal S1x8192x768 .f32) (wq wk : FVec Ideal S768x768 .f32) : FVec Ideal S7x2048 .f32 :=
  Host.reduceAdd (ee x wq wk) (constant S_ .f32 0x00000000#32) reducesTo_S7x2048x2048_S7x2048_d2 h_S_

/-- The windows' attention. -/
def oo (x : FVec Ideal S1x8192x768 .f32) (wq wk wv : FVec Ideal S768x768 .f32) : FVec Ideal S7x2048x768 .f32 :=
  Host.divf (Host.dotGeneral dot_S7x2048x2048_S7x2048x768_S7x2048x768_2_1_1_2_0_0 none (ee x wq wk) (pj x wv))
    (broadcastInDim S7x2048x768 ![0, 1, 2] bcast_S7x2048x1_S7x2048x768_0_1_2 (broadcastInDim S7x2048x1 ![0, 1] bcast_S7x2048_S7x2048x1_0_1 (dd x wq wk)))

/-- The denominators place by place. -/
def df (x : FVec Ideal S1x8192x768 .f32) (wq wk : FVec Ideal S768x768 .f32) : FVec Ideal S14336 .f32 :=
  shapeCast _ (dd x wq wk) shapeCasts_S7x2048_S14336

/-- The denominators added up row by row of the input. -/
def ds (x : FVec Ideal S1x8192x768 .f32) (wq wk : FVec Ideal S768x768 .f32) : FVec Ideal S8192 .f32 :=
  Host.scatterAdd scatter_S8192_S14336x1_S14336_n_0_0_1 (broadcastInDim S8192 ![] bcast_S_S8192 (constant S_ .f32 0x00000000#32)) idx1 (df x wq wk)

/-- A place's weight. -/
def wt (x : FVec Ideal S1x8192x768 .f32) (wq wk : FVec Ideal S768x768 .f32) : FVec Ideal S14336 .f32 :=
  Host.divf (df x wq wk) (Host.gather gather_S8192_S14336x1_S14336_n_0_n_n_0_1_1 (ds x wq wk) idx1)

/-- The places' weighted attention. -/
def up (x : FVec Ideal S1x8192x768 .f32) (wq wk wv : FVec Ideal S768x768 .f32) : FVec Ideal S14336x768 .f32 :=
  mulf (shapeCast _ (oo x wq wk wv) shapeCasts_S7x2048x768_S14336x768)
    (broadcastInDim S14336x768 ![0, 1] bcast_S14336x1_S14336x768_0_1 (broadcastInDim S14336x1 ![0] bcast_S14336_S14336x1_0 (wt x wq wk)))

/-- The result. -/
def res (x : FVec Ideal S1x8192x768 .f32) (wq wk wv : FVec Ideal S768x768 .f32) : FVec Ideal S8192x768 .f32 :=
  Host.scatterAdd scatter_S8192x768_S14336x1_S14336x768_1_0_0_1 (broadcastInDim S8192x768 ![] bcast_S_S8192x768 (constant S_ .f32 0x00000000#32)) idx1 (up x wq wk wv)

theorem res_eq (m : (ℓ : Loc nD τ sig) → Buf (Elt Ideal) ℓ) (c : Dev nD) :
    Cert.ReferenceIdeal.Value.res_main_v65 (F := Ideal) m c = res (m ((c.tc : Thread nD τ).loc main_arg0)) (m ((c.tc : Thread nD τ).loc main_arg1))
      (m ((c.tc : Thread nD τ).loc main_arg2)) (m ((c.tc : Thread nD τ).loc main_arg3)) := by
  unfold Cert.ReferenceIdeal.Value.res_main_v65
  rfl

/-! ## The rows the places stand for -/

/-- `a·i` as a word. -/
theorem lin_apply (n a : ℕ) (h : (⟨0, ![]⟩ : Shape).BroadcastsInDim ⟨1, ![n]⟩ ![]) (i : Fin n) : lin n a h (ix1 i) = BitVec.ofNat 32 (a * i.val) := by
  show (0#32 : BitVec 32) + BitVec.ofNat 32 a * BitVec.ofNat 32 i.val = _
  rw [BitVec.zero_add, ← BitVec.ofNat_mul]

theorem idx0_apply (j : Fin 14336) : idx0 (ix1 j) = BitVec.ofNat 32 (rowOf j.val) := by
  unfold rowOf
  have hj := j.isLt
  split
  · next h =>
    refine (concatenate_apply_piece (t := S14336) 0 [⟨S8192, lin 8192 1 bcast_S_S8192⟩, ⟨S4096, lin 4096 2 bcast_S_S4096⟩, ⟨S2048, lin 2048 4 bcast_S_S2048⟩] concatenates_S8192_S4096_S2048_S14336_d0 (ix1 j) 0 (by show _ < 3; omega) S8192 _ rfl rfl 0 rfl (ix1 (⟨j.val, h⟩ : Fin 8192)) ?_ ?_).trans ?_
    · intro b hb; exact absurd (Subsingleton.elim _ _) hb
    · exact Nat.zero_add _
    · exact (lin_apply 8192 1 bcast_S_S8192 ⟨j.val, h⟩).trans (by rw [Nat.one_mul])
  · next h =>
    split
    · next h2 =>
      refine (concatenate_apply_piece (t := S14336) 0 [⟨S8192, lin 8192 1 bcast_S_S8192⟩, ⟨S4096, lin 4096 2 bcast_S_S4096⟩, ⟨S2048, lin 2048 4 bcast_S_S2048⟩] concatenates_S8192_S4096_S2048_S14336_d0 (ix1 j) 1 (by show _ < 3; omega) S4096 _ rfl rfl 8192 rfl (ix1 (⟨j.val - 8192, by omega⟩ : Fin 4096)) ?_ ?_).trans ?_
      · intro b hb; exact absurd (Subsingleton.elim _ _) hb
      · show 8192 + (j.val - 8192) = j.val
        omega
      · exact lin_apply 4096 2 bcast_S_S4096 ⟨j.val - 8192, by omega⟩
    · next h2 =>
      refine (concatenate_apply_piece (t := S14336) 0 [⟨S8192, lin 8192 1 bcast_S_S8192⟩, ⟨S4096, lin 4096 2 bcast_S_S4096⟩, ⟨S2048, lin 2048 4 bcast_S_S2048⟩] concatenates_S8192_S4096_S2048_S14336_d0 (ix1 j) 2 (by show _ < 3; omega) S2048 _ rfl rfl 12288 rfl (ix1 (⟨j.val - 12288, by omega⟩ : Fin 2048)) ?_ ?_).trans ?_
      · intro b hb; exact absurd (Subsingleton.elim _ _) hb
      · show 12288 + (j.val - 12288) = j.val
        omega
      · exact lin_apply 2048 4 bcast_S_S2048 ⟨j.val - 12288, by omega⟩

theorem idx1_apply (j : Fin 14336) : idx1 (ix2 j (0 : Fin 1)) = BitVec.ofNat 32 (rowOf j.val) := by
  unfold idx1
  refine (broadcastInDim_apply ![0] bcast_S14336_S14336x1_0 _ (ix2 j (0 : Fin 1)) (ix1 j) ?_).trans ?_
  · intro a
    match a with
    | ⟨0, _⟩ => rfl
  have hr := rowOf_lt j
  refine (Routing.wrap_of_lt (idx0 (ix1 j)) _ ?_).trans (idx0_apply j)
  rw [idx0_apply, BitVec.toNat_ofNat, Nat.mod_eq_of_lt (by omega)]
  show rowOf j.val < 2 ^ 31
  omega

theorem idx1_toInt (j : Fin 14336) : (idx1 (ix2 j (0 : Fin 1))).toInt = (rowOf j.val : Int) := by
  have hr := rowOf_lt j
  rw [idx1_apply, BitVec.toInt_eq_toNat_of_lt (by rw [BitVec.toNat_ofNat, Nat.mod_eq_of_lt (by omega)]; omega), BitVec.toNat_ofNat, Nat.mod_eq_of_lt (by omega)]

/-- Where a denominator lands. -/
theorem lands1 (j : Fin 14336) (n : Fin 8192) :
    scatter_S8192_S14336x1_S14336_n_0_0_1.resultIdx? (ix1 j) idx1 = some (ix1 n) ↔ rowOf j.val = n.val := by
  have hst : scatter_S8192_S14336x1_S14336_n_0_0_1.start (ix1 j) idx1 0 = (idx1 (ix2 j (0 : Fin 1))).toInt := by
    unfold ScatterDims.start
    rw [dif_pos (show (0 : Fin 1) ∈ scatter_S8192_S14336x1_S14336_n_0_0_1.scatterDimsToOperandDims from List.mem_singleton.mpr rfl)]
    refine congrArg (fun y => (idx1 y).toInt) (funext fun b => Fin.ext ?_)
    match b with
    | ⟨0, _⟩ => rfl
    | ⟨1, _⟩ => rfl
  have hw : scatter_S8192_S14336x1_S14336_n_0_0_1.window (ix1 j) 0 = 0 := rfl
  refine (Routing.resultIdx?_ix1 (N := 8192) scatter_S8192_S14336x1_S14336_n_0_0_1 (ix1 j) idx1 n).trans ?_
  rw [hst, hw, idx1_toInt]
  omega

/-- Where a place's row lands. -/
theorem lands2 (j : Fin 14336) (k : Fin 768) (n : Fin 8192) (d : Fin 768) :
    scatter_S8192x768_S14336x1_S14336x768_1_0_0_1.resultIdx? (ix2 j k) idx1 = some (ix2 n d) ↔ rowOf j.val = n.val ∧ k = d := by
  have hst : scatter_S8192x768_S14336x1_S14336x768_1_0_0_1.start (ix2 j k) idx1 0 = (idx1 (ix2 j (0 : Fin 1))).toInt := by
    unfold ScatterDims.start
    rw [dif_pos (show (0 : Fin 2) ∈ scatter_S8192x768_S14336x1_S14336x768_1_0_0_1.scatterDimsToOperandDims from List.mem_singleton.mpr rfl)]
    refine congrArg (fun y => (idx1 y).toInt) (funext fun b => Fin.ext ?_)
    match b with
    | ⟨0, _⟩ => rfl
    | ⟨1, _⟩ => rfl
  have hs1 : scatter_S8192x768_S14336x1_S14336x768_1_0_0_1.start (ix2 j k) idx1 1 = 0 := rfl
  have hw : scatter_S8192x768_S14336x1_S14336x768_1_0_0_1.window (ix2 j k) 0 = 0 := rfl
  have hw1 : scatter_S8192x768_S14336x1_S14336x768_1_0_0_1.window (ix2 j k) 1 = k.val := rfl
  refine (Routing.resultIdx?_ix2 (R := 8192) (C := 768) scatter_S8192x768_S14336x1_S14336x768_1_0_0_1 (ix2 j k) idx1 n d).trans ?_
  rw [hst, hs1, hw, hw1, idx1_toInt, Fin.ext_iff]
  omega

/-! ## The stages read at an index -/

/-- A matrix as a function of its two coordinates. -/
def mt (w : FVec Ideal S768x768 .f32) (c d : Fin 768) : EReal := w (ix2 c d)

/-- Window `t`'s rows. -/
def win (x : FVec Ideal S1x8192x768 .f32) (t : Fin 7) (r : Fin 2048) (c : Fin 768) : EReal :=
  x (ix3 (0 : Fin 1) ⟨rowOf (2048 * t.val + r.val), rowOf_lt ⟨2048 * t.val + r.val, by omega⟩⟩ c)

/-- The scale of the scores. -/
def sc : EReal := (Scalar.ofBits .f32 0x3D13CD3A#32 : Ideal .f32)

theorem xs_apply (x : FVec Ideal S1x8192x768 .f32) (t : Fin 7) (r : Fin 2048) (c : Fin 768) : xs x (ix3 t r c) = win x t r c := by
  unfold xs
  refine (shapeCast_apply _ shapeCasts_S14336x768_S7x2048x768 (ix3 t r c) (ix2 (⟨2048 * t.val + r.val, by omega⟩ : Fin 14336) c) ?_).trans ?_
  · rw [Shape.rowMajor_val_two, Shape.rowMajor_val_three]
    show (2048 * t.val + r.val) * 768 + c.val = (t.val * 2048 + r.val) * 768 + c.val
    omega
  refine (Routing.gather_row (nb := 8192) (B := 768) (n := 14336) gather_S8192x768_S14336x1_S14336x768_1_0_n_n_0_1_1768 rfl rfl rfl rfl rfl _ idx1 _ c
    ⟨rowOf (2048 * t.val + r.val), rowOf_lt ⟨2048 * t.val + r.val, by omega⟩⟩ (idx1_apply _) (by norm_num)).trans ?_
  refine shapeCast_apply x shapeCasts_S1x8192x768_S8192x768 _ _ ?_
  rw [Shape.rowMajor_val_two, Shape.rowMajor_val_three]
  show (0 * 8192 + rowOf (2048 * t.val + r.val)) * 768 + c.val = rowOf (2048 * t.val + r.val) * 768 + c.val
  omega

theorem pj_apply (x : FVec Ideal S1x8192x768 .f32) (w : FVec Ideal S768x768 .f32) (t : Fin 7) (r : Fin 2048) (d : Fin 768) :
    pj x w (ix3 t r d) = pr (win x t) (mt w) r d := by
  let D := dot_S7x2048x768_S768x768_S7x2048x768_2_0_01_1_n_n
  have hr : D.contr.rank = 1 := rfl
  have hs : D.contr.size ⟨0, by rw [hr]; exact Nat.one_pos⟩ = 768 := rfl
  refine (Ideal.dotGeneral_apply D none _ _ _ _).trans ?_
  rw [← Equiv.sum_comp (contrEquiv1 D 768 hr hs).symm]
  refine Finset.sum_congr rfl fun k _ => ?_
  have hk := contrEquiv1_symm_val D 768 hr hs k
  have el : D.lhsIdx (ix3 t r d) ((contrEquiv1 D 768 hr hs).symm k) = ix3 t r k := by
    funext a; apply Fin.ext
    match a with
    | ⟨0, _⟩ => rfl
    | ⟨1, _⟩ => rfl
    | ⟨2, _⟩ => exact hk
  have er : D.rhsIdx (ix3 t r d) ((contrEquiv1 D 768 hr hs).symm k) = ix2 k d := by
    funext a; apply Fin.ext
    match a with
    | ⟨0, _⟩ => exact hk
    | ⟨1, _⟩ => rfl
  rw [el, er, xs_apply]
  rfl

theorem ee_apply (x : FVec Ideal S1x8192x768 .f32) (wq wk : FVec Ideal S768x768 .f32) (t : Fin 7) (r j : Fin 2048) :
    ee x wq wk (ix3 t r j) = expS (win x t) (mt wq) (mt wk) sc r j := by
  let D := dot_S7x2048x768_S7x2048x768_S7x2048x2048_2_2_1_1_0_0
  have hr : D.contr.rank = 1 := rfl
  have hs : D.contr.size ⟨0, by rw [hr]; exact Nat.one_pos⟩ = 768 := rfl
  have key : Host.dotGeneral D none (pj x wq) (pj x wk) (ix3 t r j) = dotp (pr (win x t) (mt wq)) (pr (win x t) (mt wk)) r j := by
    refine (Ideal.dotGeneral_apply D none _ _ _ _).trans ?_
    rw [← Equiv.sum_comp (contrEquiv1 D 768 hr hs).symm]
    refine Finset.sum_congr rfl fun k _ => ?_
    have hk := contrEquiv1_symm_val D 768 hr hs k
    have el : D.lhsIdx (ix3 t r j) ((contrEquiv1 D 768 hr hs).symm k) = ix3 t r k := by
      funext a; apply Fin.ext
      match a with
      | ⟨0, _⟩ => rfl
      | ⟨1, _⟩ => rfl
      | ⟨2, _⟩ => exact hk
    have er : D.rhsIdx (ix3 t r j) ((contrEquiv1 D 768 hr hs).symm k) = ix3 t j k := by
      funext a; apply Fin.ext
      match a with
      | ⟨0, _⟩ => rfl
      | ⟨1, _⟩ => rfl
      | ⟨2, _⟩ => exact hk
    rw [el, er, pj_apply, pj_apply]
  unfold expS
  rw [← key]
  show Ideal.exp (_ * broadcastInDim S7x2048x2048 ![] bcast_S_S7x2048x2048 (constant S_ .f32 0x3D13CD3A#32 : FVec Ideal S_ .f32) (ix3 t r j)) = _
  rw [broadcastInDim_scalar_apply]
  rfl

theorem dd_apply (x : FVec Ideal S1x8192x768 .f32) (wq wk : FVec Ideal S768x768 .f32) (t : Fin 7) (r : Fin 2048) :
    dd x wq wk (ix2 t r) = den (expS (win x t) (mt wq) (mt wk) sc) r := by
  unfold dd
  rw [hostReduceAdd_apply, Ideal.hostReduceAdd_r3_a2]
  rw [constant_apply, Ideal.ofBits_zero_f32, zero_add]
  exact Finset.sum_congr rfl fun k _ => ee_apply x wq wk t r k

theorem oo_apply (x : FVec Ideal S1x8192x768 .f32) (wq wk wv : FVec Ideal S768x768 .f32) (t : Fin 7) (r : Fin 2048) (d : Fin 768) :
    oo x wq wk wv (ix3 t r d)
      = Ideal.div (pr (expS (win x t) (mt wq) (mt wk) sc) (pr (win x t) (mt wv)) r d) (den (expS (win x t) (mt wq) (mt wk) sc) r) := by
  let D := dot_S7x2048x2048_S7x2048x768_S7x2048x768_2_1_1_2_0_0
  have hr : D.contr.rank = 1 := rfl
  have hs : D.contr.size ⟨0, by rw [hr]; exact Nat.one_pos⟩ = 2048 := rfl
  unfold oo
  rw [hostDivf_apply]
  refine congrArg₂ Ideal.div ?_ ?_
  · refine (Ideal.dotGeneral_apply D none _ _ _ _).trans ?_
    rw [← Equiv.sum_comp (contrEquiv1 D 2048 hr hs).symm]
    refine Finset.sum_congr rfl fun k _ => ?_
    have hk := contrEquiv1_symm_val D 2048 hr hs k
    have el : D.lhsIdx (ix3 t r d) ((contrEquiv1 D 2048 hr hs).symm k) = ix3 t r k := by
      funext a; apply Fin.ext
      match a with
      | ⟨0, _⟩ => rfl
      | ⟨1, _⟩ => rfl
      | ⟨2, _⟩ => exact hk
    have er : D.rhsIdx (ix3 t r d) ((contrEquiv1 D 2048 hr hs).symm k) = ix3 t k d := by
      funext a; apply Fin.ext
      match a with
      | ⟨0, _⟩ => rfl
      | ⟨1, _⟩ => exact hk
      | ⟨2, _⟩ => rfl
    rw [el, er, ee_apply, pj_apply]
  · refine (broadcastInDim_apply ![0, 1, 2] bcast_S7x2048x1_S7x2048x768_0_1_2 _ (ix3 t r d) (ix3 t r (0 : Fin 1)) ?_).trans ?_
    · intro a
      match a with
      | ⟨0, _⟩ => rfl
      | ⟨1, _⟩ => rfl
      | ⟨2, _⟩ => rfl
    refine (broadcastInDim_apply ![0, 1] bcast_S7x2048_S7x2048x1_0_1 _ (ix3 t r (0 : Fin 1)) (ix2 t r) ?_).trans ?_
    · intro a
      match a with
      | ⟨0, _⟩ => rfl
      | ⟨1, _⟩ => rfl
    exact dd_apply x wq wk t r

/-! ## Place by place -/

/-- The window of a place, and the place's row of it. -/
def seg (j : Fin 14336) : Fin 7 := ⟨j.val / 2048, by omega⟩
def loc (j : Fin 14336) : Fin 2048 := ⟨j.val % 2048, by omega⟩

/-- A place's numerator. -/
def nu (x : FVec Ideal S1x8192x768 .f32) (wq wk wv : FVec Ideal S768x768 .f32) (d : Fin 768) (j : Fin 14336) : EReal :=
  pr (expS (win x (seg j)) (mt wq) (mt wk) sc) (pr (win x (seg j)) (mt wv)) (loc j) d

/-- A place's denominator. -/
def dn (x : FVec Ideal S1x8192x768 .f32) (wq wk : FVec Ideal S768x768 .f32) (j : Fin 14336) : EReal :=
  den (expS (win x (seg j)) (mt wq) (mt wk) sc) (loc j)

theorem df_apply (x : FVec Ideal S1x8192x768 .f32) (wq wk : FVec Ideal S768x768 .f32) (j : Fin 14336) : df x wq wk (ix1 j) = dn x wq wk j := by
  unfold df
  refine (shapeCast_apply _ shapeCasts_S7x2048_S14336 (ix1 j) (ix2 (seg j) (loc j)) ?_).trans (dd_apply x wq wk _ _)
  rw [Shape.rowMajor_val_two, Shape.rowMajor_val_one]
  show j.val / 2048 * 2048 + j.val % 2048 = j.val
  omega

/-- A vector repeated along the columns of a matrix. -/
theorem col_bcast {n k : ℕ} (h1 : (⟨1, ![n]⟩ : Shape).BroadcastsInDim ⟨2, ![n, 1]⟩ ![0])
    (h2 : (⟨2, ![n, 1]⟩ : Shape).BroadcastsInDim ⟨2, ![n, k]⟩ ![0, 1]) (hn : n ≠ 1) (v : (⟨1, ![n]⟩ : Shape).Idx → EReal) (i : Fin n) (j : Fin k) :
    broadcastInDim (⟨2, ![n, k]⟩ : Shape) ![0, 1] h2 (broadcastInDim (⟨2, ![n, 1]⟩ : Shape) ![0] h1 v) (ix2 i j) = v (ix1 i) := by
  refine (broadcastInDim_apply ![0, 1] h2 _ (ix2 i j) (ix2 i (0 : Fin 1)) ?_).trans ?_
  · intro a
    match a with
    | ⟨0, _⟩ => exact (if_neg hn).symm
    | ⟨1, _⟩ => rfl
  · refine broadcastInDim_apply ![0] h1 v (ix2 i (0 : Fin 1)) (ix1 i) ?_
    intro a
    match a with
    | ⟨0, _⟩ => exact (if_neg hn).symm

/-- The places of a row. -/
def places (n : Fin 8192) : Finset (Fin 14336) := Finset.univ.filter fun j => rowOf j.val = n.val

theorem ds_apply (x : FVec Ideal S1x8192x768 .f32) (wq wk : FVec Ideal S768x768 .f32) (n : Fin 8192) :
    ds x wq wk (ix1 n) = ∑ j ∈ places n, dn x wq wk j := by
  show Ideal.hostScatterAdd scatter_S8192_S14336x1_S14336_n_0_0_1 _ idx1 (df x wq wk) (ix1 n) = _
  unfold Ideal.hostScatterAdd
  rw [broadcastInDim_scalar_apply, constant_apply, Ideal.ofBits_zero_f32, zero_add, Finset.sum_filter, Idealize.ShloMosaic.sum_idx1, places, Finset.sum_filter]
  refine Finset.sum_congr rfl fun j _ => ?_
  exact if_congr (lands1 j n) (df_apply x wq wk j) rfl

theorem up_apply (x : FVec Ideal S1x8192x768 .f32) (wq wk wv : FVec Ideal S768x768 .f32) (j : Fin 14336) (d : Fin 768) (n : Fin 8192) (hn : rowOf j.val = n.val) :
    up x wq wk wv (ix2 j d) = Ideal.div (nu x wq wk wv d j) (dn x wq wk j) * Ideal.div (dn x wq wk j) (∑ i ∈ places n, dn x wq wk i) := by
  unfold up
  rw [mulf_apply]
  refine congrArg₂ (· * ·) ?_ ?_
  · refine (shapeCast_apply _ shapeCasts_S7x2048x768_S14336x768 (ix2 j d) (ix3 (seg j) (loc j) d) ?_).trans (oo_apply x wq wk wv _ _ d)
    rw [Shape.rowMajor_val_two, Shape.rowMajor_val_three]
    show (j.val / 2048 * 2048 + j.val % 2048) * 768 + d.val = j.val * 768 + d.val
    omega
  · refine (col_bcast bcast_S14336_S14336x1_0 bcast_S14336x1_S14336x768_0_1 (by norm_num) (wt x wq wk) j d).trans ?_
    unfold wt
    rw [hostDivf_apply, df_apply]
    refine congrArg (Ideal.div _) ?_
    refine (Routing.gather_take1 (N := 8192) (n := 14336) gather_S8192_S14336x1_S14336_n_0_n_n_0_1_1 rfl rfl rfl rfl _ idx1 j n ?_ (by norm_num)).trans (ds_apply x wq wk n)
    rw [idx1_apply, hn]

theorem res_apply (x : FVec Ideal S1x8192x768 .f32) (wq wk wv : FVec Ideal S768x768 .f32) (n : Fin 8192) (d : Fin 768) :
    res x wq wk wv (ix2 n d)
      = ∑ j ∈ places n, Ideal.div (nu x wq wk wv d j) (dn x wq wk j) * Ideal.div (dn x wq wk j) (∑ i ∈ places n, dn x wq wk i) := by
  show Ideal.hostScatterAdd scatter_S8192x768_S14336x1_S14336x768_1_0_0_1 _ idx1 (up x wq wk wv) (ix2 n d) = _
  unfold Ideal.hostScatterAdd
  rw [broadcastInDim_scalar_apply, constant_apply, Ideal.ofBits_zero_f32, zero_add, Finset.sum_filter, ValueIdx.sum_idx2]
  conv_rhs => rw [places, Finset.sum_filter]
  refine Finset.sum_congr rfl fun j _ => ?_
  have e : ∀ k : Fin 768, (if scatter_S8192x768_S14336x1_S14336x768_1_0_0_1.resultIdx? (ix2 j k) idx1 = some (ix2 n d) then up x wq wk wv (ix2 j k) else 0)
      = if k = d then (if rowOf j.val = n.val then up x wq wk wv (ix2 j d) else 0) else 0 := by
    intro k
    by_cases hk : k = d
    · subst hk
      rw [if_pos rfl]
      exact if_congr ((lands2 j k n k).trans (and_iff_left rfl)) rfl rfl
    · rw [if_neg hk, if_neg fun h => hk ((lands2 j k n d).mp h).2]
  refine (Finset.sum_congr rfl fun k _ => e k).trans ?_
  rw [Finset.sum_ite_eq' Finset.univ d, if_pos (Finset.mem_univ d)]
  by_cases hn : rowOf j.val = n.val
  · rw [if_pos hn, if_pos hn]
    exact up_apply x wq wk wv j d n hn
  · rw [if_neg hn, if_neg hn]

end Cert.ReferenceIdeal.Hand

end
-- ==== Proof.Join.lean ====
/-
  The kernel's row sums are the reference's sums over a row's places, where the kernel's scratch copy holds the input and
  its joined weights hold the three weights, the first scaled; with finite entries the two results are one.
-/
module

public import proofs.«01_k».proof.Proof.KernelValue
public import proofs.«01_k».proof.Proof.RefValue

@[expose] public section

noncomputable section

namespace Cert.Join

open Cert.Attn Cert.KernelIdeal.Hand
open Cert.ReferenceIdeal.Hand (mt sc nu dn seg loc places res res_apply)
open Idealize.ShloMosaic hiding ix1 ix2 ix3 ix0 sum_idx1 sum_idx2
open Idealize.ShloMosaic.TcCoe Idealize.ShloMosaic.ValueIdx
open scoped BigOperators

/-- The kernel's window `t`, in the reference's order. -/
def kw (X : FVec Ideal Cert.KernelIdeal.S8192x768 .bf16) (t : Fin 7) : FVec Ideal Cert.KernelIdeal.S2048x768 .bf16 :=
  if h : t.val < 4 then xb1 (F := Ideal) X ⟨t.val, h⟩ else if h' : t.val < 6 then xb2 (F := Ideal) X ⟨t.val - 4, by omega⟩ else xb4 (F := Ideal) X

variable (X : FVec Ideal Cert.KernelIdeal.S8192x768 .bf16) (w : FVec Ideal Cert.KernelIdeal.S768x2304 .bf16)
variable (x : FVec Ideal Cert.ReferenceIdeal.S1x8192x768 .f32) (wq wk wv : FVec Ideal Cert.ReferenceIdeal.S768x768 .f32)

/-- What the kernel is given, of the arguments. -/
structure Given : Prop where
  hX : ∀ r c, X (ix2 r c) = x (ix3 (0 : Fin 1) r c)
  hq : ∀ c d, wc w 0 (by omega) c d = mt wq c d * sc
  hk : ∀ c d, wc w 768 (by omega) c d = mt wk c d
  hv : ∀ c d, wc w 1536 (by omega) c d = mt wv c d

/-- An array of finite entries. -/
def Fin' {s : Shape} (y : s.Idx → EReal) : Prop := ∃ z : s.Idx → ℝ, y = fun i => (z i : EReal)

variable {X w x wq wk wv}

theorem ar_kw (g : Given X w x wq wk wv) (t : Fin 7) : ar (kw X t) = Cert.ReferenceIdeal.Hand.win x t := by
  funext r c
  have ht := t.isLt
  unfold kw Cert.ReferenceIdeal.Hand.win
  have e : ∀ n : Fin 8192, n.val = rowOf (2048 * t.val + r.val) →
      X (ix2 n c) = x (ix3 (0 : Fin 1) ⟨rowOf (2048 * t.val + r.val), rowOf_lt ⟨2048 * t.val + r.val, by omega⟩⟩ c) := by
    intro n hn
    rw [g.hX, show n = ⟨rowOf (2048 * t.val + r.val), rowOf_lt ⟨2048 * t.val + r.val, by omega⟩⟩ from Fin.ext hn]
  split
  · next h =>
    rw [ar_xb1]
    exact e _ (by unfold rowOf; rw [if_pos (by omega)])
  · split
    · next h h' =>
      rw [ar_xb2]
      refine e _ ?_
      unfold rowOf; rw [if_neg (by omega), if_pos (by omega)]
      show 4096 * (t.val - 4) + 2 * r.val = _
      omega
    · next h h' =>
      rw [ar_xb4]
      refine e _ ?_
      unfold rowOf; rw [if_neg (by omega), if_neg (by omega)]
      show 4 * r.val = _
      omega

/-- Windows of a finite input are finite. -/
theorem win_fin (hx : Fin' x) (t : Fin 7) : ∃ y : Fin 2048 → Fin 768 → ℝ, Cert.ReferenceIdeal.Hand.win x t = fun r c => (y r c : EReal) := by
  obtain ⟨z, rfl⟩ := hx
  exact ⟨_, rfl⟩

theorem mt_fin {v : FVec Ideal Cert.ReferenceIdeal.S768x768 .f32} (hv : Fin' v) : ∃ y : Fin 768 → Fin 768 → ℝ, mt v = fun r c => (y r c : EReal) := by
  obtain ⟨z, rfl⟩ := hv
  exact ⟨_, rfl⟩

theorem sc_fin : ∃ y : ℝ, sc = (y : EReal) := by
  show ∃ y : ℝ, Ideal.ofBits .f32 0x3D13CD3A#32 = (y : EReal)
  simp [Ideal.ofBits, Ideal.ieee, -EReal.coe_mul]

/-- The exponentials agree, and are positive reals. -/
theorem exp_agree (g : Given X w x wq wk wv) (hx : Fin' x) (hq : Fin' wq) (hk : Fin' wk) (t : Fin 7) :
    expK (kw X t) w = expS (Cert.ReferenceIdeal.Hand.win x t) (mt wq) (mt wk) sc
      ∧ ∃ e : Fin 2048 → Fin 2048 → ℝ, (∀ r j, 0 < e r j) ∧ expS (Cert.ReferenceIdeal.Hand.win x t) (mt wq) (mt wk) sc = fun r j => (e r j : EReal) := by
  obtain ⟨h1, h2⟩ := expS_real (Cert.ReferenceIdeal.Hand.win x t) (mt wq) (mt wk) sc (win_fin hx t) (mt_fin hq) (mt_fin hk) sc_fin
  refine ⟨Eq.trans ?_ h1, h2⟩
  funext r j
  unfold expK expW
  rw [ar_kw g, show wc w 0 (by omega) = fun c d => mt wq c d * sc from funext fun c => funext fun d => g.hq c d,
    show wc w 768 (by omega) = mt wk from funext fun c => funext fun d => g.hk c d]

theorem ndv_nu (g : Given X w x wq wk wv) (hx : Fin' x) (hq : Fin' wq) (hk : Fin' wk) (j : Fin 14336) (k : Fin 768) :
    ndv (F := Ideal) (kw X (seg j)) w (loc j) ⟨k.val, by omega⟩ = nu x wq wk wv k j := by
  rw [ndv_num _ _ _ _ k.isLt, (exp_agree g hx hq hk (seg j)).1, ar_kw g,
    show wc w 1536 (by omega) = mt wv from funext fun c => funext fun d => g.hv c d]
  rfl

theorem ndv_dn (g : Given X w x wq wk wv) (hx : Fin' x) (hq : Fin' wq) (hk : Fin' wk) (j : Fin 14336) :
    ndv (F := Ideal) (kw X (seg j)) w (loc j) ⟨768, by omega⟩ = dn x wq wk j := by
  rw [ndv_den _ _ _ _ (by show ¬ 768 < 768; omega), (exp_agree g hx hq hk (seg j)).1]
  rfl

/-- A row of the kernel's sums is the sum over the row's places. -/
theorem sums_eq (n : Fin 8192) (k : Fin 896) (f : Fin 14336 → EReal)
    (hf : ∀ j, ndv (F := Ideal) (kw X (seg j)) w (loc j) k = f j) : sums X w n k = ∑ j ∈ places n, f j := by
  unfold places
  rw [sum_rowOf f n]
  unfold sums
  refine congrArg₂ (· + ·) (congrArg₂ (· + ·) ?_ ?_) ?_
  · rw [← hf]
    unfold kw seg loc
    rw [dif_pos (by show n.val / 2048 < 4; omega)]
  · refine if_congr Iff.rfl ?_ rfl
    rw [← hf]
    unfold kw seg loc
    rw [dif_neg (by show ¬ (8192 + n.val / 2) / 2048 < 4; omega), dif_pos (by show (8192 + n.val / 2) / 2048 < 6; omega)]
    exact congrArg₂ (fun b r => ndv (F := Ideal) (xb2 X b) w r k) (Fin.ext (by show n.val / 4096 = (8192 + n.val / 2) / 2048 - 4; omega))
      (Fin.ext (by show n.val % 4096 / 2 = (8192 + n.val / 2) % 2048; omega))
  · refine if_congr Iff.rfl ?_ rfl
    rw [← hf]
    unfold kw seg loc
    rw [dif_neg (by show ¬ (12288 + n.val / 4) / 2048 < 4; omega), dif_neg (by show ¬ (12288 + n.val / 4) / 2048 < 6; omega)]
    exact congrArg (fun r => ndv (F := Ideal) (xb4 X) w r k) (Fin.ext (by show n.val / 4 = (12288 + n.val / 4) % 2048; omega))

/-- The two results, row by row. -/
theorem row_eq (g : Given X w x wq wk wv) (hx : Fin' x) (hq : Fin' wq) (hk : Fin' wk) (n : Fin 8192) (k : Fin 768) :
    Ideal.div (sums X w n ⟨k.val, by omega⟩) (sums X w n ⟨768, by omega⟩) = res x wq wk wv (ix2 n k) := by
  rw [res_apply, sums_eq n _ (nu x wq wk wv k) (fun j => ndv_nu g hx hq hk j k), sums_eq n _ (dn x wq wk) (fun j => ndv_dn g hx hq hk j)]
  have hd : ∀ j, ∃ d : ℝ, 0 < d ∧ dn x wq wk j = (d : EReal) := by
    intro j
    obtain ⟨-, e, he, hE⟩ := exp_agree g hx hq hk (seg j)
    obtain ⟨h1, h2⟩ := den_real (by norm_num) e he (loc j)
    refine ⟨_, h2, ?_⟩
    unfold dn
    rw [hE]
    exact h1
  choose d hd0 hd1 using hd
  refine (mix (places n) ⟨⟨n.val, by omega⟩, ?_⟩ (nu x wq wk wv k) (dn x wq wk) d hd0 hd1).symm
  unfold places rowOf
  rw [Finset.mem_filter]
  exact ⟨Finset.mem_univ _, if_pos n.isLt⟩

end Cert.Join

end
-- ==== Proof.Value.lean ====
/-
  The kernel's output array is the reference's result: the host operations before the launch hand the kernel the input
  and the joined weights, the last four grid points write the four row blocks, and with finite entries each row is the
  reference's.
-/
module

public import proofs.«01_k».proof.Proof.Join
public import proofs.«01_k».proof.Proof.Launch
public import proofs.«01_k».proof.Proof.Gen.Pre_finite
public import Idealize.ShloMosaic.Lib.Pipeline.ValueKit
public import Idealize.ShloMosaic.Lib.Claim

@[expose] public section

noncomputable section

namespace Cert.KernelIdeal.Hand

open Cert.KernelIdeal Cert.KernelIdeal.Gen Cert.Join
open Cert.ReferenceIdeal.Hand (mt sc res res_eq)
open Idealize.ShloMosaic hiding ix1 ix2 ix3 ix0 sum_idx1 sum_idx2
open Idealize.ShloMosaic.TcCoe Idealize.ShloMosaic.ValueIdx Idealize.SL.Sem
open Idealize.ShloMosaic.Pipeline (Dat)

theorem preFacts : Cert.Pre_finite.Facts := Cert.Pre_finite.Gen.facts

/-! ## Finite entries, of the precondition -/

/-- A number whose absolute value is below the infinity pattern is a real. -/
theorem real_of_lt (a : EReal) (h : Ideal.cmp .olt (max a (-a)) (Ideal.ofBits .f32 0x7F800000#32) = 1#1) : ∃ z : ℝ, a = (z : EReal) := by
  have ht : Ideal.ofBits .f32 0x7F800000#32 = ⊤ := by simp [Ideal.ofBits, Ideal.ieee]
  rw [ht] at h
  have hlt : max a (-a) < ⊤ := by
    by_contra hn
    simp [Ideal.cmp, hn] at h
  induction a using EReal.rec with
  | bot => simp at hlt
  | coe r => exact ⟨r, rfl⟩
  | top => simp at hlt

/-- An array all of whose entries pass the test is one of reals. -/
theorem fin_of {s : Shape} (b : (⟨0, ![]⟩ : Shape).BroadcastsInDim s ![]) (y : FVec Ideal s .f32)
    (h : cmpf .olt (Host.absf y) (broadcastInDim s ![] b (constant ⟨0, ![]⟩ .f32 0x7F800000#32)) = fun _ => 1#1) : Fin' y := by
  have hz : ∀ i, ∃ z : ℝ, y i = (z : EReal) := fun i => real_of_lt (y i) (by
    have e := congrFun h i
    rw [cmpf_apply, broadcastInDim_scalar_apply] at e
    exact e)
  exact ⟨fun i => (hz i).choose, funext fun i => (hz i).choose_spec⟩

variable (m : (ℓ : Loc nD τ sig) → Buf (Elt Ideal) ℓ)

/-! ## What the host hands the kernel -/

/-- The kernel's input array: the input's one batch entry. -/
def xarr (x : FVec Ideal S1x8192x768 .f32) : FVec Ideal S8192x768 .bf16 :=
  truncf .bf16 (shapeCast S8192x768 x shapeCasts_S1x8192x768_S8192x768) bitsLt_bf16_f32

theorem V_v1 (c : Dev nD) : V m c main_v1 = xarr (m ((c : Thread nD τ).loc main_arg0)) := by
  entry_read
  rfl

/-- The three weights side by side, the first scaled. -/
def joined (wq wk wv : FVec Ideal S768x768 .f32) : FVec Ideal S768x2304 .f32 :=
  concatenate S768x2304 1 [⟨S768x768, mulf wq (broadcastInDim S768x768 ![] bcast_S_S768x768 (constant S_ .f32 0x3D13CD3A#32))⟩, ⟨S768x768, wk⟩, ⟨S768x768, wv⟩]
    concatenates_S768x768_S768x768_S768x768_S768x2304_d1

/-- The kernel's weight array. -/
def warr (wq wk wv : FVec Ideal S768x768 .f32) : FVec Ideal S768x2304 .bf16 := truncf .bf16 (joined wq wk wv) bitsLt_bf16_f32

theorem V_v5 (c : Dev nD) : V m c main_v5
    = warr (m ((c : Thread nD τ).loc main_arg1)) (m ((c : Thread nD τ).loc main_arg2)) (m ((c : Thread nD τ).loc main_arg3)) := by
  show StableHlo.after hostOps0 (fun b => m (c, b)) main_v5 = _
  after_results_simp
  rfl

theorem joined_apply (wq wk wv : FVec Ideal S768x768 .f32) (g : Fin 3) (i k : Fin 768) (z : Fin 2304) (hz : z.val = g.val * 768 + k.val) :
    joined wq wk wv (ix2 i z)
      = (![mulf wq (broadcastInDim S768x768 ![] bcast_S_S768x768 (constant S_ .f32 0x3D13CD3A#32)), wk, wv] : Fin 3 → FVec Ideal S768x768 .f32) g (ix2 i k) := by
  unfold joined
  refine concatenate_apply_piece (t := S768x2304) 1 [⟨S768x768, mulf wq (broadcastInDim S768x768 ![] bcast_S_S768x768 (constant S_ .f32 0x3D13CD3A#32))⟩, ⟨S768x768, wk⟩, ⟨S768x768, wv⟩]
    concatenates_S768x768_S768x768_S768x768_S768x2304_d1 (ix2 i z) g.val g.isLt S768x768 _ ?_ rfl (g.val * 768) ?_ (ix2 i k) ?_ ?_
  · fin_cases g <;> rfl
  · fin_cases g <;> rfl
  · intro b hb
    match b with
    | ⟨0, _⟩ => rfl
    | ⟨1, _⟩ => exact absurd rfl hb
  · exact hz.symm

/-- The staged weights are the whole joined array. -/
theorem win_apply (c : Dev nD) (j : S768x2304.Idx) : win m c j = (V m c main_v5 : FVec Ideal S768x2304 .bf16) j := by
  unfold win iblk
  have e : ((cfg0.win 0).blk t0_0).view.emb j = j := by
    funext a
    apply Fin.ext
    match a with
    | ⟨0, _⟩ => exact Pipeline.Window.rect_emb_val_of_index_zero win0_0 t0_0 0 (by decide) j
    | ⟨1, _⟩ => exact Pipeline.Window.rect_emb_val_of_index_zero win0_0 t0_0 1 (by decide) j
  exact congrArg (V m c main_v5 : FVec Ideal S768x2304 .bf16) e

theorem given (c : Dev nD) : Given (xin m c) (win m c) (m ((c : Thread nD τ).loc main_arg0)) (m ((c : Thread nD τ).loc main_arg1))
    (m ((c : Thread nD τ).loc main_arg2)) (m ((c : Thread nD τ).loc main_arg3)) where
  hX r k := by
    show (V m c main_v1 : FVec Ideal S8192x768 .bf16) (ix2 r k) = _
    rw [V_v1]
    refine shapeCast_apply _ _ (ix2 r k) (ix3 (0 : Fin 1) r k) ?_
    rw [Shape.rowMajor_val_two, Shape.rowMajor_val_three]
    show ((0 : ℕ) * 8192 + r.val) * 768 + k.val = r.val * 768 + k.val
    omega
  hq i d := by
    unfold wc
    rw [win_apply, V_v5]
    refine (joined_apply _ _ _ (0 : Fin 3) i d _ (by show 0 + d.val = 0 * 768 + d.val; omega)).trans ?_
    show _ * broadcastInDim S768x768 ![] bcast_S_S768x768 (constant (F := Ideal) S_ .f32 0x3D13CD3A#32) (ix2 i d) = _
    rw [broadcastInDim_scalar_apply]
    rfl
  hk i d := by
    unfold wc
    rw [win_apply, V_v5]
    exact joined_apply _ _ _ (1 : Fin 3) i d _ (by show 768 + d.val = 1 * 768 + d.val; omega)
  hv i d := by
    unfold wc
    rw [win_apply, V_v5]
    exact joined_apply _ _ _ (2 : Fin 3) i d _ (by show 1536 + d.val = 2 * 768 + d.val; omega)

/-! ## The output array -/

theorem flush_ge : ∀ t : Fin grid0.N, (cfg0.win 1).flush t = true → 3 ≤ t.val ∧ win0_1.index t = ![t.val - 3, 0] := by decide

theorem out_eq (c : Dev nD) (hx : Fin' (m ((c : Thread nD τ).loc main_arg0) : FVec Ideal S1x8192x768 .f32))
    (hq : Fin' (m ((c : Thread nD τ).loc main_arg1) : FVec Ideal S768x768 .f32)) (hk : Fin' (m ((c : Thread nD τ).loc main_arg2) : FVec Ideal S768x768 .f32)) :
    (dats m 0 c).arrAt 1 cfg0.N = (res (m ((c : Thread nD τ).loc main_arg0)) (m ((c : Thread nD τ).loc main_arg1))
      (m ((c : Thread nD τ).loc main_arg2)) (m ((c : Thread nD τ).loc main_arg3)) : FVec Ideal S8192x768 .f32) := by
  refine (dats m 0 c).arrAt_eq_of_covers 1 _ (by decide +kernel) fun t hf y => ?_
  obtain ⟨ht, hi⟩ := flush_ge t hf
  have htN : t.val < 7 := lt_of_lt_of_eq t.isLt N_0
  obtain ⟨r, k, rfl⟩ : ∃ (r : Fin 2048) (k : Fin 768), y = ix2 r k := ⟨y 0, y 1, ValueIdx.eq_ix2 y⟩
  have e : ((cfg0.win 1).blk t).view.emb (ix2 r k) = ix2 (⟨2048 * (t.val - 3) + r.val, by omega⟩ : Fin 8192) k := by
    funext a
    apply Fin.ext
    match a with
    | ⟨0, _⟩ =>
      refine (Pipeline.Window.rect_emb_val win0_1 t (ix2 r k) 0).trans ?_
      rw [hi]
      show (t.val - 3) * 2048 + r.val = 2048 * (t.val - 3) + r.val
      omega
    | ⟨1, _⟩ =>
      refine (Pipeline.Window.rect_emb_val win0_1 t (ix2 r k) 1).trans ?_
      rw [hi]
      show 0 * 768 + k.val = k.val
      omega
  rw [e, after0_1]
  refine Eq.trans ?_ (row_eq (given m c) hx hq hk _ k)
  exact outv_apply (xin m c) (win m c) ⟨min (t.val - 3) 3, by omega⟩ r k _ (by
    show 2048 * (t.val - 3) + r.val = 2048 * min (t.val - 3) 3 + r.val
    omega)

/-- The kernel's result is the reference's. -/
theorem result_eq (m' : (ℓ : Loc Cert.ReferenceIdeal.nD Cert.ReferenceIdeal.τ Cert.ReferenceIdeal.sig) → Buf (Elt Ideal) ℓ) (c : Dev nD)
    (hpre : (Cert.Pre_finite.fn (F := Ideal) (m (c.tc.loc main_arg0)) (m (c.tc.loc main_arg1)) (m (c.tc.loc main_arg2)) (m (c.tc.loc main_arg3))).1 = (fun _ => 1#1)
      ∧ (Cert.Pre_finite.fn (F := Ideal) (m (c.tc.loc main_arg0)) (m (c.tc.loc main_arg1)) (m (c.tc.loc main_arg2)) (m (c.tc.loc main_arg3))).2.1 = (fun _ => 1#1)
      ∧ (Cert.Pre_finite.fn (F := Ideal) (m (c.tc.loc main_arg0)) (m (c.tc.loc main_arg1)) (m (c.tc.loc main_arg2)) (m (c.tc.loc main_arg3))).2.2 = (fun _ => 1#1))
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3))
    {r : PUnit × MemSt nD τ sig (Elt Ideal)} (h : Pipeline.FramePost cfgs (dats m) 0 (V m) r) :
    r.2.mem ((c.tc : Thread nD τ).loc main_v6) = Cert.ReferenceIdeal.Value.res_main_v65 (F := Ideal) m' c := by
  obtain ⟨p0, p1, p2⟩ := hpre
  obtain ⟨a0, a1, a2, a3⟩ := hag
  refine ((h c).1 (1 : Fin 2)).trans ((out_eq m c (fin_of _ _ p0) (fin_of _ _ p1) (fin_of _ _ p2)).trans ?_)
  refine Eq.trans ?_ (res_eq m' c).symm
  rw [a0, a1, a2, a3]

end Cert.KernelIdeal.Hand

end
-- ==== Proof.lean ====
/- The certificate's proof: the run of the kernel, written once at any floats (`Proof/Launch.lean`), read at the bits and at
   the extended reals for the two frames; the reference's generated run for its frame; and the value
   (`Proof/Value.lean`) for the equality of the two results. -/
module

public import proofs.«01_k».proof.Defs
public import proofs.«01_k».proof.Proof.Gen.Kernel
public import proofs.«01_k».proof.Proof.Launch
public import proofs.«01_k».proof.Proof.Value
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.KernelIdeal.Hand.preFacts

/-- The two programs have one body table: their texts are the same. -/
theorem defs_eq : Cert.Kernel.defs (F := Bits) = Cert.KernelIdeal.defs (F := Bits) := congrArg (Pipeline.defs Cert.KernelIdeal.pcfgs) (by
  unfold Cert.Kernel.defs₀ Cert.KernelIdeal.defs₀
  refine congrArg _ ?_
  funext l a
  match l, a with
  | 0, (t, s) => exact rfl)

/-- The kernel at the bits: the same program text, so the run at any floats is its run. -/
theorem frame_kernel : Cert.quiescent_Kernel := fun m ρ _ => by
  have h := Cert.KernelIdeal.Hand.run_frame (F := Bits) m ρ
  rw [← defs_eq] at h
  exact h

/-- The kernel at the extended reals. -/
theorem frame_kernelIdeal : Cert.quiescent_KernelIdeal := fun m ρ _ => Cert.KernelIdeal.Hand.run_frame (F := Ideal) m ρ

/-- The reference: host operations only, no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result and the reference's are one array of extended reals. -/
theorem algebraic : Cert.algebraic_KernelIdeal_ReferenceIdeal_pre_finite := fun m ρ m' ρ' hpre hag =>
  ⟨fun c => Cert.ReferenceIdeal.Value.res_main_v65 (F := Ideal) m' c,
    (θ_run Cert.KernelIdeal.defs _ _).mono (fun _ h c => ⟨Cert.KernelIdeal.Hand.result_eq m m' c (hpre c) (hag c) h.1,
      Cert.KernelIdeal.Hand.args_of (F := Ideal) m h.1 c⟩) (Cert.KernelIdeal.Hand.run_main (F := Ideal) m ρ),
    Cert.ReferenceIdeal.Value.run (F := Ideal) m' ρ'⟩

theorem claim : Cert.Claim := ⟨Cert.Kernel.Gen.facts, Cert.KernelIdeal.Gen.facts, Cert.ReferenceIdeal.Gen.facts, Cert.KernelIdeal.Hand.preFacts,
  frame_kernel, frame_kernelIdeal, fun m ρ _ => frame_kernelIdeal m ρ trivial, frame_referenceIdeal,
  fun m ρ _ => frame_referenceIdeal m ρ trivial, trivial, algebraic⟩

end Cert.Proof

end
